-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x2048 : Shape := ⟨2, ![4096, 2048]⟩
abbrev S2048x2048 : Shape := ⟨2, ![2048, 2048]⟩
abbrev S2048x2046 : Shape := ⟨2, ![2048, 2046]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x2046 : S_.BroadcastsInDim S2048x2046 (![] : Fin 0 → Fin S2048x2046.rank)
  reducesTo_S2048x2046_S_d0_1 : S2048x2046.ReducesTo [0, 1] S_

variable [Facts]

def fn {F : FTy → Type} [FloatOps F] (main_arg0 : FVec F S4096x2048 .f32) (main_arg1 : FVec F S2048x2048 .f32) (main_arg2 : FVec F S2048x2046 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2046 .f32 := Host.absf main_arg2
  let main_cst_2 : FVec F S_ .f32 := constant S_ .f32 0x7F800000#32
  let main_v10 : FVec F S2048x2046 .f32 := broadcastInDim S2048x2046 ![] bcast_S_S2048x2046 main_cst_2
  let main_v11 : IVec S2048x2046 1 := cmpf .olt main_v9 main_v10
  let main_c_3 : IVec S_ 1 := constantI S_ 1 1#1
  let main_v12 : IVec S_ 1 := (fun x v => Host.reduce IntOp.andi x v reducesTo_S2048x2046_S_d0_1 h_S_) main_v11 main_c_3
  let main_v13 : IVec S_ 1 := andi main_v8 main_v12
  main_v13
-- ==== Kernel.lean ====
abbrev S4096x2048 : Shape := ⟨2, ![4096, 2048]⟩
abbrev S2048x2048 : Shape := ⟨2, ![2048, 2048]⟩
abbrev S2048x2046 : Shape := ⟨2, ![2048, 2046]⟩
abbrev S_ : Shape := ⟨0, ![]⟩
abbrev S4096x11 : Shape := ⟨2, ![4096, 11]⟩
abbrev S1024x512 : Shape := ⟨2, ![1024, 512]⟩
abbrev S512x2048 : Shape := ⟨2, ![512, 2048]⟩
abbrev S1024x2048 : Shape := ⟨2, ![1024, 2048]⟩
abbrev S1024x11 : Shape := ⟨2, ![1024, 11]⟩
abbrev S1024x1 : Shape := ⟨2, ![1024, 1]⟩
abbrev S1024x2 : Shape := ⟨2, ![1024, 2]⟩
abbrev S1024 : Shape := ⟨1, ![1024]⟩
abbrev S1024x4 : Shape := ⟨2, ![1024, 4]⟩
abbrev S1024x8 : Shape := ⟨2, ![1024, 8]⟩
abbrev S1024x16 : Shape := ⟨2, ![1024, 16]⟩
abbrev S1024x32 : Shape := ⟨2, ![1024, 32]⟩
abbrev S1024x64 : Shape := ⟨2, ![1024, 64]⟩
abbrev S1024x128 : Shape := ⟨2, ![1024, 128]⟩
abbrev S1024x256 : Shape := ⟨2, ![1024, 256]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2046, .f32⟩
  | .hbm, ⟨3, _⟩ => ⟨S4096x2048, .bf16⟩
  | .hbm, ⟨4, _⟩ => ⟨S2048x2048, .bf16⟩
  | .hbm, ⟨5, _⟩ => ⟨S4096x2048, .f32⟩
  | .hbm, ⟨6, _⟩ => ⟨S_, .i32⟩
  | .hbm, ⟨7, _⟩ => ⟨S_, .f32⟩
  | .hbm, ⟨8, _⟩ => ⟨S2048x2048, .f32⟩
  | .hbm, ⟨9, _⟩ => ⟨S4096x11, .i32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x512, .f32⟩
  | .local _ .vmem, ⟨8, _⟩ => ⟨S1024x512, .f32⟩
  | .local _ .vmem, ⟨9, _⟩ => ⟨S512x2048, .f32⟩
  | .local _ .vmem, ⟨10, _⟩ => ⟨S512x2048, .f32⟩
  | .local _ .vmem, ⟨11, _⟩ => ⟨S1024x11, .i32⟩
  | .local _ .vmem, ⟨12, _⟩ => ⟨S1024x11, .i32⟩
  | .local _ .vmem, ⟨13, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_call0_v0 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x11 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== ReferenceIdeal.lean ====
abbrev S4096x2048 : Shape := ⟨2, ![4096, 2048]⟩
abbrev S2048x2048 : Shape := ⟨2, ![2048, 2048]⟩
abbrev S2048x2046 : Shape := ⟨2, ![2048, 2046]⟩
abbrev S2 : Shape := ⟨1, ![2]⟩
abbrev S_ : Shape := ⟨0, ![]⟩
abbrev S4096 : Shape := ⟨1, ![4096]⟩
abbrev S10x4096 : Shape := ⟨2, ![10, 4096]⟩
abbrev S1x2 : Shape := ⟨2, ![1, 2]⟩
abbrev S4096x1 : Shape := ⟨2, ![4096, 1]⟩
abbrev S4096x2 : Shape := ⟨2, ![4096, 2]⟩
abbrev S4096x2x1 : Shape := ⟨3, ![4096, 2, 1]⟩
abbrev S1 : Shape := ⟨1, ![1]⟩
abbrev S1x1x1 : Shape := ⟨3, ![1, 1, 1]⟩
abbrev S4096x2048x2 : Shape := ⟨3, ![4096, 2048, 2]⟩
abbrev S4096x2x2048 : Shape := ⟨3, ![4096, 2, 2048]⟩
abbrev S1x4096 : Shape := ⟨2, ![1, 4096]⟩
abbrev S4096x10 : Shape := ⟨2, ![4096, 10]⟩
abbrev S4096x11 : Shape := ⟨2, ![4096, 11]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2046, .f32⟩
  | .hbm, ⟨3, _⟩ => ⟨S4096x2048, .f32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i32⟩
  | .hbm, ⟨8, _⟩ => ⟨S_, .i32⟩
  | .hbm, ⟨9, _⟩ => ⟨S4096, .i32⟩
  | .hbm, ⟨10, _⟩ => ⟨S_, .i32⟩
  | .hbm, ⟨11, _⟩ => ⟨S10x4096, .i32⟩
  | .hbm, ⟨12, _⟩ => ⟨S_, .i32⟩
  | .hbm, ⟨13, _⟩ => ⟨S2, .i32⟩
  | .hbm, ⟨14, _⟩ => ⟨S2048x2046, .f32⟩
  | .hbm, ⟨15, _⟩ => ⟨S4096x2048, .f32⟩
  | .hbm, ⟨16, _⟩ => ⟨S_, .i32⟩
  | .hbm, ⟨17, _⟩ => ⟨S4096, .i32⟩
  | .hbm, ⟨18, _⟩ => ⟨S10x4096, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S1x2, .i32⟩
  | .hbm, ⟨25, _⟩ => ⟨S4096x1, .i32⟩
  | .hbm, ⟨26, _⟩ => ⟨S4096x2, .i32⟩
  | .hbm, ⟨27, _⟩ => ⟨S4096x2, .i32⟩
  | .hbm, ⟨28, _⟩ => ⟨S4096x2, .i32⟩
  | .hbm, ⟨29, _⟩ => ⟨S_, .i32⟩
  | .hbm, ⟨30, _⟩ => ⟨S4096x2, .i32⟩
  | .hbm, ⟨31, _⟩ => ⟨S4096x2, .i32⟩
  | .hbm, ⟨32, _⟩ => ⟨S_, .i32⟩
  | .hbm, ⟨33, _⟩ => ⟨S4096x2, .i32⟩
  | .hbm, ⟨34, _⟩ => ⟨S4096x2, .i1⟩
  | .hbm, ⟨35, _⟩ => ⟨S_, .i32⟩
  | .hbm, ⟨36, _⟩ => ⟨S4096x2, .i32⟩
  | .hbm, ⟨37, _⟩ => ⟨S4096x2, .i32⟩
  | .hbm, ⟨38, _⟩ => ⟨S4096x2, .i32⟩
  | .hbm, ⟨39, _⟩ => ⟨S4096x2x1, .i32⟩
  | .hbm, ⟨40, _⟩ => ⟨S1, .i32⟩
  | .hbm, ⟨41, _⟩ => ⟨S_, .i32⟩
  | .hbm, ⟨42, _⟩ => ⟨S4096x2x1, .i32⟩
  | .hbm, ⟨43, _⟩ => ⟨S4096x2x1, .i1⟩
  | .hbm, ⟨44, _⟩ => ⟨S1x1x1, .i32⟩
  | .hbm, ⟨45, _⟩ => ⟨S4096x2x1, .i32⟩
  | .hbm, ⟨46, _⟩ => ⟨S4096x2x1, .i1⟩
  | .hbm, ⟨47, _⟩ => ⟨S4096x2x1, .i1⟩
  | .hbm, ⟨48, _⟩ => ⟨S_, .i1⟩
  | .hbm, ⟨49, _⟩ => ⟨S4096x2, .i1⟩
  | .hbm, ⟨50, _⟩ => ⟨S4096x2048x2, .f32⟩
  | .hbm, ⟨51, _⟩ => ⟨S4096x2048x2, .i1⟩
  | .hbm, ⟨52, _⟩ => ⟨S_, .f32⟩
  | .hbm, ⟨53, _⟩ => ⟨S4096x2048x2, .f32⟩
  | .hbm, ⟨54, _⟩ => ⟨S4096x2048x2, .f32⟩
  | .hbm, ⟨55, _⟩ => ⟨S4096x2x2048, .f32⟩
  | .hbm, ⟨56, _⟩ => ⟨S4096x2, .f32⟩
  | .hbm, ⟨57, _⟩ => ⟨S4096x2, .i32⟩
  | .hbm, ⟨58, _⟩ => ⟨S_, .f32⟩
  | .hbm, ⟨59, _⟩ => ⟨S_, .i32⟩
  | .hbm, ⟨60, _⟩ => ⟨S4096, .f32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S1x4096, .i32⟩
  | .hbm, ⟨70, _⟩ => ⟨S_, .i32⟩
  | .hbm, ⟨71, _⟩ => ⟨S10x4096, .i32⟩
  | .hbm, ⟨72, _⟩ => ⟨S_, .i32⟩
  | .hbm, ⟨73, _⟩ => ⟨S_, .i32⟩
  | .hbm, ⟨74, _⟩ => ⟨S4096x10, .i32⟩
  | .hbm, ⟨75, _⟩ => ⟨S_, .i32⟩
  | .hbm, ⟨76, _⟩ => ⟨S4096x1, .i32⟩
  | .hbm, ⟨77, _⟩ => ⟨S4096x11, .i32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_while0c_c_9 : Ref sig .tc := ⟨.hbm, 19, rfl⟩
abbrev main_while0c_v10 : Ref sig .tc := ⟨.hbm, 20, rfl⟩
abbrev main_while0b_c_9 : Ref sig .tc := ⟨.hbm, 21, rfl⟩
abbrev main_while0b_v10 : Ref sig .tc := ⟨.hbm, 22, rfl⟩
abbrev main_while0b_v11 : Ref sig .tc := ⟨.hbm, 23, rfl⟩
abbrev main_while0b_v12 : Ref sig .tc := ⟨.hbm, 24, rfl⟩
abbrev main_while0b_v13 : Ref sig .tc := ⟨.hbm, 25, rfl⟩
abbrev main_while0b_v14 : Ref sig .tc := ⟨.hbm, 26, rfl⟩
abbrev main_while0b_v15 : Ref sig .tc := ⟨.hbm, 27, rfl⟩
abbrev main_while0b_v16 : Ref sig .tc := ⟨.hbm, 28, rfl⟩
abbrev main_while0b_c_10 : Ref sig .tc := ⟨.hbm, 29, rfl⟩
abbrev main_while0b_v17 : Ref sig .tc := ⟨.hbm, 30, rfl⟩
abbrev main_while0b_v18 : Ref sig .tc := ⟨.hbm, 31, rfl⟩
abbrev main_while0b_call0_c : Ref sig .tc := ⟨.hbm, 32, rfl⟩
abbrev main_while0b_call0_v0 : Ref sig .tc := ⟨.hbm, 33, rfl⟩
abbrev main_while0b_call0_v1 : Ref sig .tc := ⟨.hbm, 34, rfl⟩
abbrev main_while0b_call0_c_0 : Ref sig .tc := ⟨.hbm, 35, rfl⟩
abbrev main_while0b_call0_v2 : Ref sig .tc := ⟨.hbm, 36, rfl⟩
abbrev main_while0b_call0_v3 : Ref sig .tc := ⟨.hbm, 37, rfl⟩
abbrev main_while0b_call0_v4 : Ref sig .tc := ⟨.hbm, 38, rfl⟩
abbrev main_while0b_call0_v5 : Ref sig .tc := ⟨.hbm, 39, rfl⟩
abbrev main_while0b_call0_c_1 : Ref sig .tc := ⟨.hbm, 40, rfl⟩
abbrev main_while0b_call0_c_2 : Ref sig .tc := ⟨.hbm, 41, rfl⟩
abbrev main_while0b_call0_v6 : Ref sig .tc := ⟨.hbm, 42, rfl⟩
abbrev main_while0b_call0_v7 : Ref sig .tc := ⟨.hbm, 43, rfl⟩
abbrev main_while0b_call0_v8 : Ref sig .tc := ⟨.hbm, 44, rfl⟩
abbrev main_while0b_call0_v9 : Ref sig .tc := ⟨.hbm, 45, rfl⟩
abbrev main_while0b_call0_v10 : Ref sig .tc := ⟨.hbm, 46, rfl⟩
abbrev main_while0b_call0_v11 : Ref sig .tc := ⟨.hbm, 47, rfl⟩
abbrev main_while0b_call0_c_3 : Ref sig .tc := ⟨.hbm, 48, rfl⟩
abbrev main_while0b_call0_v12 : Ref sig .tc := ⟨.hbm, 49, rfl⟩
abbrev main_while0b_call0_v13 : Ref sig .tc := ⟨.hbm, 50, rfl⟩
abbrev main_while0b_call0_v14 : Ref sig .tc := ⟨.hbm, 51, rfl⟩
abbrev main_while0b_call0_cst : Ref sig .tc := ⟨.hbm, 52, rfl⟩
abbrev main_while0b_call0_v15 : Ref sig .tc := ⟨.hbm, 53, rfl⟩
abbrev main_while0b_v19 : Ref sig .tc := ⟨.hbm, 54, rfl⟩
abbrev main_while0b_v20 : Ref sig .tc := ⟨.hbm, 55, rfl⟩
abbrev main_while0b_v21 : Ref sig .tc := ⟨.hbm, 56, rfl⟩
abbrev main_while0b_call1_v0 : Ref sig .tc := ⟨.hbm, 57, rfl⟩
abbrev main_while0b_call1_cst : Ref sig .tc := ⟨.hbm, 58, rfl⟩
abbrev main_while0b_call1_c : Ref sig .tc := ⟨.hbm, 59, rfl⟩
abbrev main_while0b_call1_v1_0 : Ref sig .tc := ⟨.hbm, 60, rfl⟩
abbrev main_while0b_v22 : Ref sig .tc := ⟨.hbm, 61, rfl⟩
abbrev main_while0b_c_11 : Ref sig .tc := ⟨.hbm, 62, rfl⟩
abbrev main_while0b_v23 : Ref sig .tc := ⟨.hbm, 63, rfl⟩
abbrev main_while0b_v24 : Ref sig .tc := ⟨.hbm, 64, rfl⟩
abbrev main_while0b_c_12 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_call2_v0 : Ref sig .tc := ⟨.hbm, 69, rfl⟩
abbrev main_while0b_call2_c : Ref sig .tc := ⟨.hbm, 70, rfl⟩
abbrev main_while0b_v28 : Ref sig .tc := ⟨.hbm, 71, rfl⟩
abbrev main_while0b_c_13 : Ref sig .tc := ⟨.hbm, 72, rfl⟩
abbrev main_while0b_v29 : Ref sig .tc := ⟨.hbm, 73, rfl⟩
abbrev main_v7 : Ref sig .tc := ⟨.hbm, 74, rfl⟩
abbrev main_c_3 : Ref sig .tc := ⟨.hbm, 75, rfl⟩
abbrev main_v8 : Ref sig .tc := ⟨.hbm, 76, rfl⟩
abbrev main_v9 : Ref sig .tc := ⟨.hbm, 77, rfl⟩

abbrev nD : Nat := 1
abbrev τ : Topo := Topo.v7x

variable {F : FTy → Type} [FloatOps F]

abbrev main_while0_count : Scf.Loop 32 := ⟨0#32, 10#32, 1#32⟩
-- ==== Proof.KernelIdeal.Body0.lean ====
/-
  The first kernel region: `f = x @ w` by a 4 x 4 grid, each run of four points accumulating one block of rows of the product in
  the scratch and storing it at the last point. One execution of the body at each kind of point, what the scratch holds after each
  point (`scr`), and the pipeline's proof data over any entry contents `W`.
-/
module

public import proofs.«01_k».proof.Proof.Gen.KernelIdeal.Regions
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two offsets of a whole-block load or store are zero. -/
theorem origin2 : (![0, 0] : Fin 2 → Nat) = fun _ => 0 := funext fun a => by fin_cases a <;> rfl

/-- The condition under which the body zeroes its scratch: the inner grid coordinate is 0. -/
abbrev isFirst (i : grid0.Coords) : Prop :=
  (Scalar.cmpi .ne (Scalar.extui (Scalar.cmpi .eq (BitVec.ofNat 32 (i 1).val) 0#32)) 0#32) = 1#1
/-- The condition under which the body stores its output: the inner grid coordinate is 3. -/
abbrev isLast (i : grid0.Coords) : Prop := k0_cond2 i = 1#1

/-- The inner coordinate of point `t` is `t % 4`. -/
theorem isFirst_iff : ∀ t : Fin cfg0.N, isFirst (grid0.coords t) ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [isFirst, e1]
    word_cmp
   : ∀ t : Fin grid0.N, isFirst (grid0.coords t) ↔ t.val % 4 = 0)
theorem isLast_iff : ∀ t : Fin cfg0.N, isLast (grid0.coords t) ↔ t.val % 4 = 3 :=
  (fun t => by
    have ht : t.val < 16 := Nat.lt_of_lt_of_eq t.isLt N_0
    have e1 : (grid0.coords t 1).val = t.val / 1 % 4 := Pipeline.Grid.coords_val t 1 (by decide) rfl
    simp only [isLast, k0_cond2, e1]
    word_cmp
   : ∀ t : Fin grid0.N, isLast (grid0.coords t) ↔ t.val % 4 = 3)

/-! ## One execution of the body, at each kind of point -/

set_option maxHeartbeats 1600000 in
/-- At the first point of a run the scratch, whatever it held, is zeroed and takes the first product; the output is not touched. -/
theorem body_A (c : Dev nD) (i : grid0.Coords) (arg2 : Memref sig .tc .vmem S1024x512 .bf16) (harg2 : arg2.IsWhole) (arg3 : Memref sig .tc .vmem S512x2048 .bf16) (harg3 : arg3.IsWhole)
    (arg4 : Memref sig .tc .vmem S1024x2048 .f32) (harg4 : arg4.IsWhole) (arg5 : Memref sig .tc .vmem S1024x2048 .f32) (harg5 : arg5.IsWhole)
    (h0 : isFirst i) (h1 : ¬isLast i) (x : Vec F S1024x512 .bf16) (y : Vec F S512x2048 .bf16) (o : Vec F S1024x2048 .f32) (E : Set ℕ) (K : PUnit → sProp 𝕄) :
    iprop(owns (c : Thread nD τ) arg2 fullShare x ∗ owns (c : Thread nD τ) arg3 fullShare y ∗ owns (c : Thread nD τ) arg4 fullShare o ∗ (∃ d, owns (c : Thread nD τ) arg5 fullShare d)
        ∗ (iprop(owns (c : Thread nD τ) arg2 fullShare x ∗ owns (c : Thread nD τ) arg3 fullShare y ∗ owns (c : Thread nD τ) arg4 fullShare o
            ∗ owns (c : Thread nD τ) arg5 fullShare (k0_pay2 (k0_pay1 (F := F)) x y)) -∗ K ⟨⟩))
      ⊢ wp frame (wpE (defs₀ (F := F)) Variants.none c none) E (cc0__mm1_body i arg2 harg2 arg3 harg3 arg4 harg4 arg5 harg5) K := by
  simp only [cc0__mm1_body_eq_skeleton]; unfold cc0__mm1_body_skel
  unfold owns
  iintro ⟨⟨%f2, %hf2, H2⟩, ⟨%f3, %hf3, H3⟩, H4, ⟨%d5, %f5, -, H5⟩, Hk⟩
  obtain rfl := harg2.eq_unread hf2; obtain rfl := harg3.eq_unread hf3
  sl_exec (disch := first | sl_exact h0 | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]; · iexact H4
  · iexists _; isplitr; swap; (· iexact H5); ipureintro
    rw [View.read_writes_eq_canon _ _ _ (fun z => View.cover_of_tiledL _ S1024x2048.size (by sl_kernel_rfl) z)]
    sl_unfold_words
    rw [View.canon_cons_unit_zero (S := S1024x2048) origin2]
    simp only [View.readAt_eq_ld, View.ld_unit_zero (S := S1024x2048) origin2, View.ld_unit_zero (S := S1024x512) origin2, View.ld_unit_zero (S := S512x2048) origin2, View.readCov_unit_zero (S := S1024x2048) _ origin2, harg2.read_unread, harg3.read_unread]

set_option maxHeartbeats 1600000 in
/-- At a middle point the product of the two blocks is added into the scratch; the output is not touched. -/
theorem body_B (c : Dev nD) (i : grid0.Coords) (arg2 : Memref sig .tc .vmem S1024x512 .bf16) (harg2 : arg2.IsWhole) (arg3 : Memref sig .tc .vmem S512x2048 .bf16) (harg3 : arg3.IsWhole)
    (arg4 : Memref sig .tc .vmem S1024x2048 .f32) (harg4 : arg4.IsWhole) (arg5 : Memref sig .tc .vmem S1024x2048 .f32) (harg5 : arg5.IsWhole)
    (h0 : ¬isFirst i) (h1 : ¬isLast i) (x : Vec F S1024x512 .bf16) (y : Vec F S512x2048 .bf16) (s : Vec F S1024x2048 .f32) (o : Vec F S1024x2048 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k0_pay2 s x y)) -∗ K ⟨⟩))
      ⊢ wp frame (wpE (defs₀ (F := F)) Variants.none c none) E (cc0__mm1_body i arg2 harg2 arg3 harg3 arg4 harg4 arg5 harg5) K := by
  simp only [cc0__mm1_body_eq_skeleton]; unfold cc0__mm1_body_skel
  unfold owns
  iintro ⟨⟨%f2, %hf2, H2⟩, ⟨%f3, %hf3, H3⟩, H4, ⟨%f5, %hf5, H5⟩, Hk⟩
  obtain rfl := harg2.eq_unread hf2; obtain rfl := harg3.eq_unread hf3
  obtain rfl := harg5.eq_unread hf5
  sl_exec (disch := first | sl_exact h0 | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]; · iexact H4
  · iexists _; isplitr; swap; (· iexact H5); ipureintro
    rw [View.read_writes_eq_canon _ _ _ (fun z => View.cover_of_tiledL _ S1024x2048.size (by sl_kernel_rfl) z)]
    sl_unfold_words
    rw [View.canon_unit_zero (S := S1024x2048) origin2]
    simp only [View.readAt_eq_ld, View.ld_unit_zero (S := S1024x2048) origin2, View.ld_unit_zero (S := S1024x512) origin2, View.ld_unit_zero (S := S512x2048) origin2, View.readCov_unit_zero (S := S1024x2048) _ origin2, harg2.read_unread, harg3.read_unread, harg5.read_unread]

set_option maxHeartbeats 1600000 in
/-- At the last point of a run the last product is added into the scratch and the output is stored from it. -/
theorem body_C (c : Dev nD) (i : grid0.Coords) (arg2 : Memref sig .tc .vmem S1024x512 .bf16) (harg2 : arg2.IsWhole) (arg3 : Memref sig .tc .vmem S512x2048 .bf16) (harg3 : arg3.IsWhole)
    (arg4 : Memref sig .tc .vmem S1024x2048 .f32) (harg4 : arg4.IsWhole) (arg5 : Memref sig .tc .vmem S1024x2048 .f32) (harg5 : arg5.IsWhole)
    (h0 : ¬isFirst i) (h1 : isLast i) (x : Vec F S1024x512 .bf16) (y : Vec F S512x2048 .bf16) (s : Vec F S1024x2048 .f32) (E : Set ℕ) (K : PUnit → sProp 𝕄) :
    iprop(owns (c : Thread nD τ) arg2 fullShare x ∗ owns (c : Thread nD τ) arg3 fullShare y ∗ (∃ d, owns (c : Thread nD τ) arg4 fullShare d) ∗ owns (c : Thread nD τ) arg5 fullShare s
        ∗ (iprop(owns (c : Thread nD τ) arg2 fullShare x ∗ owns (c : Thread nD τ) arg3 fullShare y ∗ owns (c : Thread nD τ) arg4 fullShare (k0_pay2 s x y)
            ∗ owns (c : Thread nD τ) arg5 fullShare (k0_pay2 s x y)) -∗ K ⟨⟩))
      ⊢ wp frame (wpE (defs₀ (F := F)) Variants.none c none) E (cc0__mm1_body i arg2 harg2 arg3 harg3 arg4 harg4 arg5 harg5) K := by
  simp only [cc0__mm1_body_eq_skeleton]; unfold cc0__mm1_body_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3
  obtain rfl := harg5.eq_unread hf5
  sl_exec (disch := first | sl_exact h0 | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; (· iexact H4); ipureintro
    rw [View.read_writes_eq_canon _ _ _ (fun z => View.cover_of_tiledL _ S1024x2048.size (by sl_kernel_rfl) z)]
    sl_unfold_words
    rw [View.canon_unit_zero (S := S1024x2048) origin2]
    simp only [View.readAt_eq_ld, View.ld_unit_zero (S := S1024x2048) origin2, View.ld_unit_zero (S := S1024x512) origin2, View.ld_unit_zero (S := S512x2048) origin2, View.readCov_unit_zero (S := S1024x2048) _ origin2, harg2.read_unread, harg3.read_unread, harg5.read_unread]
  · iexists _; isplitr; swap; (· iexact H5); ipureintro
    rw [View.read_writes_eq_canon _ _ _ (fun z => View.cover_of_tiledL _ S1024x2048.size (by sl_kernel_rfl) z)]
    sl_unfold_words
    rw [View.canon_unit_zero (S := S1024x2048) origin2]
    simp only [View.readAt_eq_ld, View.ld_unit_zero (S := S1024x2048) origin2, View.ld_unit_zero (S := S1024x512) origin2, View.ld_unit_zero (S := S512x2048) origin2, View.readCov_unit_zero (S := S1024x2048) _ origin2, harg2.read_unread, harg3.read_unread, harg5.read_unread]

end Cert.KernelIdeal.R0

end
-- ==== Proof.KernelIdeal.Region0.lean ====
/-
  Kernel region 0: the blocks, the scratch point by point, the proof data and the body obligation, over any entry contents `W`.
-/
module

public import proofs.«01_k».proof.Proof.KernelIdeal.Body0
public import proofs.«01_k».proof.Proof.Gen.KernelIdeal.Points
public import proofs.«01_k».proof.Proof.Gen.KernelIdeal.Launch

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks and what the scratch holds after each point -/

variable (W : Dev nD → Valuation τ sig (Elt F))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What the scratch holds after point `n`: the running sum of the block products of `n`'s run of four points. -/
def scr (c : Dev nD) : (n : ℕ) → n < cfg0.N → Vec F S1024x2048 .f32
  | 0, h => k0_pay2 (k0_pay1 (F := F)) (blk W c 0 ⟨0, h⟩) (blk W c 1 ⟨0, h⟩)
  | n + 1, h => k0_pay2 (if (n + 1) % 4 = 0 then k0_pay1 (F := F) else scr c n (Nat.lt_of_succ_lt h)) (blk W c 0 ⟨n + 1, h⟩) (blk W c 1 ⟨n + 1, h⟩)

theorem scr_first (c : Dev nD) (t : Fin cfg0.N) (h : t.val % 4 = 0) :
    scr W c t.val t.isLt = k0_pay2 (k0_pay1 (F := F)) (blk W c 0 t) (blk W c 1 t) := by
  obtain ⟨n, hn⟩ := t
  cases n with
  | zero => rfl
  | succ n => show k0_pay2 (if (n + 1) % 4 = 0 then _ else _) _ _ = _; rw [if_pos h]

theorem scr_next (c : Dev nD) (t : Fin cfg0.N) (h : ¬t.val % 4 = 0) :
    scr W c t.val t.isLt = k0_pay2 (scr W c (t.val - 1) (Nat.lt_of_le_of_lt (Nat.sub_le _ _) t.isLt)) (blk W c 0 t) (blk W c 1 t) := by
  obtain ⟨n, hn⟩ := t
  cases n with
  | zero => exact absurd (Nat.zero_mod _) h
  | succ n => show k0_pay2 (if (n + 1) % 4 = 0 then _ else _) _ _ = _; rw [if_neg h]; rfl

/-! ## The region's proof data -/

/-- The scratch operand as a memref. -/
abbrev scM : Memref sig .tc .vmem S1024x2048 .f32 := Memref.whole cc0_scratch0

/-- The scoped buffers of the core the region uses neither for staging nor as its scratch, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped buffers no window stages: the scratch at some contents, and the others. -/
theorem scopedRest_split (c : Dev nD) :
    (Pipeline.scopedRest (Ix := Unit) (Name := ℕ) (U := UR sig nD τ) (Lvl := ℕ) (Val := Elt F) spec0 c : sProp 𝕄)
      ⊢ iprop((∃ d, owns (c : Thread nD τ) scM fullShare d) ∗ others (F := F) c) := by
  rw [scopedRest0_eq]; unfold others; simp only [scM, owns_whole]
  iintro ⟨HS, G1, G2, G3, G4, G5, G6, G7⟩
  isplitl [HS]; · iexact HS
  isplitl [G1]; · iexact G1
  isplitl [G2]; · iexact G2
  isplitl [G3]; · iexact G3
  isplitl [G4]; · iexact G4
  isplitl [G5]; · iexact G5
  isplitl [G6]; · iexact G6
  iexact G7

theorem scopedRest_join (c : Dev nD) :
    iprop((∃ d, owns (c : Thread nD τ) scM fullShare d) ∗ others (F := F) c)
      ⊢ (Pipeline.scopedRest (Ix := Unit) (Name := ℕ) (U := UR sig nD τ) (Lvl := ℕ) (Val := Elt F) spec0 c : sProp 𝕄) := by
  rw [scopedRest0_eq]; unfold others; simp only [scM, owns_whole]
  iintro ⟨HS, ⟨G1, G2, G3, G4, G5, G6, G7⟩⟩
  isplitl [HS]; · iexact HS
  isplitl [G1]; · iexact G1
  isplitl [G2]; · iexact G2
  isplitl [G3]; · iexact G3
  isplitl [G4]; · iexact G4
  isplitl [G5]; · iexact G5
  isplitl [G6]; · iexact G6
  iexact G7

/-- The invariant before point `n`: before the first point the scratch holds anything, afterwards what the point before left. -/
def inv (c : Dev nD) : (n : ℕ) → n ≤ cfg0.N → sProp 𝕄
  | 0, _ => iprop((∃ d, owns (c : Thread nD τ) scM fullShare d) ∗ others (F := F) c)
  | n + 1, hn => iprop(owns (c : Thread nD τ) scM fullShare (scr W c n hn) ∗ others (F := F) c)

theorem inv_zero (c : Dev nD) (n : ℕ) (h : n ≤ cfg0.N) (hz : n = 0) :
    inv W c n h = iprop((∃ d, owns (c : Thread nD τ) scM fullShare d) ∗ others (F := F) c) := by subst hz; rfl
theorem inv_succ (c : Dev nD) (n : ℕ) (hn : n < cfg0.N) :
    inv W c (n + 1) hn = iprop(owns (c : Thread nD τ) scM fullShare (scr W c n hn) ∗ others (F := F) c) := rfl
theorem inv_pos (c : Dev nD) (n : ℕ) (h : n ≤ cfg0.N) (hz : n ≠ 0) :
    inv W c n h = iprop(owns (c : Thread nD τ) scM fullShare (scr W c (n - 1) (by omega)) ∗ others (F := F) c) := by
  cases n with
  | zero => exact absurd rfl hz
  | succ n => rfl

/-- The region's proof data from the entry contents `W`: the arrays as found; after the body the inputs' buffers at their blocks
    and the output's at what a storing point stores; the invariant above; nothing owed. -/
def dat (c : Dev nD) : Dat τ (Elt F) Unit ℕ (UR sig nD τ) ℕ cfg0 c where
  A w := W c (Proc.devRef .tc (Pipeline.arrRef spec0 w))
  after w t := match w with
    | ⟨0, _⟩ => blk W c 0 t
    | ⟨1, _⟩ => blk W c 1 t
    | ⟨2, _⟩ => scr W c t.val t.isLt
  Φ t := inv W c t.val (Nat.le_of_lt_succ t.isLt)
  q _ := fullShare
  owed _ := 0

theorem A_eq (c : Dev nD) (w : Fin cfg0.W) : (dat W c).A w = W c (Proc.devRef .tc (Pipeline.arrRef spec0 w)) := by dsimp only [dat]
theorem after_0 (c : Dev nD) (t : Fin cfg0.N) : (dat W c).after 0 t = blk W c 0 t := by dsimp only [dat]
theorem after_1 (c : Dev nD) (t : Fin cfg0.N) : (dat W c).after 1 t = blk W c 1 t := by dsimp only [dat]
theorem after_2 (c : Dev nD) (t : Fin cfg0.N) : (dat W c).after 2 t = scr W c t.val t.isLt := by dsimp only [dat]
theorem inv_castSucc (c : Dev nD) (t : Fin cfg0.N) : (dat W c).Φ t.castSucc = inv W c t.val (Nat.le_of_lt t.isLt) := by
  dsimp only [dat]; exact Pipeline.Dat.Φ_castSucc (inv W c) t

/-- Each input's staging buffer holds its block when the body runs. -/
theorem before_0 (c : Dev nD) (t : Fin cfg0.N) (d) : (dat W c).before 0 t d = blk W c 0 t :=
  ((dat W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg0.N) (d) : (dat W c).before 1 t d = blk W c 1 t :=
  ((dat W c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)

/-- Off the last point of a run the output window is idle and not written back. -/
theorem idle_2 : ∀ t : Fin cfg0.N, ¬t.val % 4 = 3 → cfg0.idle 2 (grid0.coords t) = true := by decide +kernel
theorem noFlush_2 : ∀ t : Fin cfg0.N, ¬t.val % 4 = 3 → (cfg0.win 2).flush t = false := by decide +kernel
theorem live_2 : ∀ t : Fin cfg0.N, t.val % 4 = 3 → cfg0.idle 2 (grid0.coords t) = false := by decide +kernel

/-- Each window's staging memref at point `t`. -/
abbrev ms_0 (t : Fin cfg0.N) : Memref sig .tc .vmem S1024x512 .bf16 := win0_0.stage (cfg0.slots t 0)
abbrev ms_1 (t : Fin cfg0.N) : Memref sig .tc .vmem S512x2048 .bf16 := win0_1.stage (cfg0.slots t 1)
abbrev ms_2 (t : Fin cfg0.N) : Memref sig .tc .vmem S1024x2048 .f32 := win0_2.stage (cfg0.slots t 2)

theorem leaves_0 (c : Dev nD) (t : Fin cfg0.N) :
    (dat W c).leavesExact 0 t = owns (c : Thread nD τ) (ms_0 t) fullShare (blk W c 0 t) := by
  unfold Dat.leavesExact; rw [show cfg0.idle 0 (grid0.coords t) = false from rfl, after_0]
theorem leaves_1 (c : Dev nD) (t : Fin cfg0.N) :
    (dat W c).leavesExact 1 t = owns (c : Thread nD τ) (ms_1 t) fullShare (blk W c 1 t) := by
  unfold Dat.leavesExact; rw [show cfg0.idle 1 (grid0.coords t) = false from rfl, after_1]
theorem leaves_2 (c : Dev nD) (t : Fin cfg0.N) (h : t.val % 4 = 3) :
    (dat W c).leavesExact 2 t = owns (c : Thread nD τ) (ms_2 t) fullShare (scr W c t.val t.isLt) := by
  unfold Dat.leavesExact; rw [live_2 t h, after_2]

/-- What the body is entered with at point `t`. -/
def bodyPre (c : Dev nD) (t : Fin cfg0.N) : sProp 𝕄 :=
  iprop((dat W c).Φ t.castSucc ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d)))
/-- What it leaves. -/
def bodyPost (c : Dev nD) (t : Fin cfg0.N) : sProp 𝕄 :=
  iprop((dat W c).Φ t.succ ∗ (dat W c).owesAt () t.succ
    ∗ (dat W c).leavesExact 0 t ∗ (dat W c).leavesExact 1 t ∗ (dat W c).leavesExact 2 t)

set_option maxHeartbeats 1600000 in
/-- The body at any point, by the kind of the point. -/
theorem body_at (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1]
  rw [show (dat W c).owesAt () t.succ = (dat W c).owesAt () t.castSucc from rfl,
    show (dat W c).Φ t.succ = inv W c (t.val + 1) t.isLt from rfl, inv_succ, inv_castSucc, leaves_0, leaves_1]
  by_cases h0 : t.val % 4 = 0
  · have h1 : ¬t.val % 4 = 3 := by omega
    rw [Dat.leavesExact_idle (dat W c) 2 t (idle_2 t h1) (noFlush_2 t h1), scr_first W c t h0]
    have hany : inv W c t.val (Nat.le_of_lt t.isLt) ⊢ iprop((∃ d, owns (c : Thread nD τ) scM fullShare d) ∗ others (F := F) c) := by
      by_cases hz : t.val = 0
      · rw [inv_zero W c _ _ hz]
      · rw [inv_pos W c _ _ hz]
        iintro ⟨HS, Ho⟩
        isplitl [HS]; · iexists _; iexact HS
        iexact Ho
    refine (sep_mono hany .rfl).trans ?_
    iintro ⟨⟨HS, Hg⟩, Ho, ⟨%d0, H0⟩, ⟨%d1, H1⟩, ⟨%d2, H2⟩⟩
    iapply (body_A c (grid0.coords t) _ _ _ _ _ _ _ _ ((isFirst_iff t).mpr h0) (fun h => h1 ((isLast_iff t).mp h)) (blk W c 0 t) (blk W c 1 t) _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists _; iexact H2
  · have hz : t.val ≠ 0 := fun h => h0 (by rw [h])
    rw [inv_pos W c _ _ hz]
    by_cases h1 : t.val % 4 = 3
    · rw [leaves_2 W c t h1, scr_next W c t h0]
      iintro ⟨⟨HS, Hg⟩, Ho, ⟨%d0, H0⟩, ⟨%d1, H1⟩, ⟨%d2, H2⟩⟩
      iapply (body_C c (grid0.coords t) _ _ _ _ _ _ _ _ (fun h => h0 ((isFirst_iff t).mp h)) ((isLast_iff t).mpr h1) (blk W c 0 t) (blk W c 1 t) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · rw [Dat.leavesExact_idle (dat W c) 2 t (idle_2 t h1) (noFlush_2 t h1), scr_next W c t h0]
      iintro ⟨⟨HS, Hg⟩, Ho, ⟨%d0, H0⟩, ⟨%d1, H1⟩, ⟨%d2, H2⟩⟩
      iapply (body_B c (grid0.coords t) _ _ _ _ _ _ _ _ (fun h => h0 ((isFirst_iff t).mp h)) (fun h => h1 ((isLast_iff t).mp h)) (blk W c 0 t) (blk W c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The pipeline's body obligation. -/
theorem body_obligation (c : Dev nD) : BodyObligation (dat W c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  exact triple_restated (body_at W c t) rfl .rfl fun _ => .rfl

/-- The invariant holds when the region is entered, -/
theorem enter (c : Dev nD) :
    (Pipeline.scopedRest (Ix := Unit) (Name := ℕ) (U := UR sig nD τ) (Lvl := ℕ) (Val := Elt F) spec0 c : sProp 𝕄) ⊢ (dat W c).Φ 0 := by
  rw [show (dat W c).Φ 0 = inv W c 0 (Nat.zero_le _) from rfl, inv_zero W c 0 _ rfl]
  exact scopedRest_split c
/-- and gives the scoped buffers back when it is left. -/
theorem leave (c : Dev nD) :
    (dat W c).Φ (Fin.last cfg0.N) ⊢ (Pipeline.scopedRest (Ix := Unit) (Name := ℕ) (U := UR sig nD τ) (Lvl := ℕ) (Val := Elt F) spec0 c : sProp 𝕄) := by
  refine BIBase.Entails.trans ?_ (scopedRest_join c)
  rw [show (dat W c).Φ (Fin.last cfg0.N) = inv W c cfg0.N (Nat.le_of_lt_succ (Fin.last cfg0.N).isLt) from rfl,
    inv_pos W c _ _ (by rw [show cfg0.N = 16 from N_0]; decide)]
  iintro ⟨HS, Ho⟩
  isplitl [HS]; · iexists _; iexact HS
  iexact Ho

end Cert.KernelIdeal.R0

end
-- ==== Proof.KernelIdeal.Body1.lean ====
/-
  The second kernel region: `f @ x_i` by a 4 x 4 grid, accumulated in the scratch like the first; at the last point of a run the body
  descends the tree in the finished block of rows and stores the eleven node numbers of each row. One execution of the body at each
  kind of point, what the scratch holds after each point (`scr`), and the pipeline's proof data over any entry contents `W`.
-/
module

public import proofs.«01_k».proof.Proof.Gen.KernelIdeal.Regions
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tree descent the body computes from the finished scratch `v`: the node numbers of the eleven levels, row by row. The
    names are the body's: `mJ` the index within its level of the node reached at level `J`, `bJ` the branch taken into level `J`,
    `sJ` the signed comparison's operands read off `v` for level `J`. -/
def descended (v : Vec F S1024x2048 .f32) : Vec F S1024x11 .i32 :=
  let m1 := k1_pay5 v
  let s2 := k1_pay7 v
  let g2 := k1_pay8 (F := F)
  let h2 := k1_pay9
  let m2 := k1_pay10 v
  let m3 := k1_pay13 v m1 s2 g2 h2 m2
  let s4 := k1_pay15 v
  let h4 := iota .tc S1024x16 32 [1] iota_S1024x16_d1_w32
  let p4 := k1_pay16
  let m4 := k1_pay17 m3 s4 h4 p4
  let b5 := k1_pay19 v m3 s4 h4 p4
  let m6 := k1_pay22 v m4 b5
  let s7 := k1_pay24 v
  let g7 := k1_pay25 (F := F)
  let h7 := k1_pay26
  let m7 := k1_pay27 v m4 b5
  let m8 := k1_pay30 v m6 s7 g7 h7 m7
  let s9 := k1_pay32 v
  let h9 := iota .tc S1024x512 32 [1] iota_S1024x512_d1_w32
  let p9 := k1_pay33
  k1_pay3 k1_pay4 (k1_pay6 v) (k1_pay12 m1 s2 g2 h2 m2) (k1_pay14 v m1 s2 g2 h2 m2) (k1_pay18 m3 s4 h4 p4) (k1_pay21 m4 b5) (k1_pay23 v m4 b5)
    (k1_pay29 m6 s7 g7 h7 m7) (k1_pay31 v m6 s7 g7 h7 m7) (k1_pay34 m8 s9 h9 p9) (k1_pay35 m8 s9 h9 p9) (k1_pay36 v m8 s9 h9 p9)

/-- The two offsets of a whole-block load or store are zero. -/
theorem origin2 : (![0, 0] : Fin 2 → Nat) = fun _ => 0 := funext fun a => by fin_cases a <;> rfl

/-- The condition under which the body zeroes its scratch: the inner grid coordinate is 0. -/
abbrev isFirst (i : grid1.Coords) : Prop :=
  (Scalar.cmpi .ne (Scalar.extui (Scalar.cmpi .eq (BitVec.ofNat 32 (i 1).val) 0#32)) 0#32) = 1#1
/-- The condition under which the body stores its output: the inner grid coordinate is 3. -/
abbrev isLast (i : grid1.Coords) : Prop := k1_cond2 i = 1#1

/-- The inner coordinate of point `t` is `t % 4`. -/
theorem isFirst_iff : ∀ t : Fin cfg1.N, isFirst (grid1.coords t) ↔ t.val % 4 = 0 :=
  (fun t => by
    have ht : t.val < 16 := Nat.lt_of_lt_of_eq t.isLt N_1
    have e1 : (grid1.coords t 1).val = t.val / 1 % 4 := Pipeline.Grid.coords_val t 1 (by decide) rfl
    simp only [isFirst, e1]
    word_cmp
   : ∀ t : Fin grid1.N, isFirst (grid1.coords t) ↔ t.val % 4 = 0)
theorem isLast_iff : ∀ t : Fin cfg1.N, isLast (grid1.coords t) ↔ t.val % 4 = 3 :=
  (fun t => by
    have ht : t.val < 16 := Nat.lt_of_lt_of_eq t.isLt N_1
    have e1 : (grid1.coords t 1).val = t.val / 1 % 4 := Pipeline.Grid.coords_val t 1 (by decide) rfl
    simp only [isLast, k1_cond2, e1]
    word_cmp
   : ∀ t : Fin grid1.N, isLast (grid1.coords t) ↔ t.val % 4 = 3)

/-! ## One execution of the body, at each kind of point -/

set_option maxHeartbeats 1600000 in
/-- At the first point of a run the scratch, whatever it held, is zeroed and takes the first product; the output is not touched. -/
theorem body_A (c : Dev nD) (i : grid1.Coords) (arg2 : Memref sig .tc .vmem S1024x512 .f32) (harg2 : arg2.IsWhole) (arg3 : Memref sig .tc .vmem S512x2048 .f32) (harg3 : arg3.IsWhole)
    (arg4 : Memref sig .tc .vmem S1024x11 .i32) (harg4 : arg4.IsWhole) (arg5 : Memref sig .tc .vmem S1024x2048 .f32) (harg5 : arg5.IsWhole)
    (h0 : isFirst i) (h1 : ¬isLast i) (x : Vec F S1024x512 .f32) (y : Vec F S512x2048 .f32) (o : Vec F S1024x11 .i32) (E : Set ℕ) (K : PUnit → sProp 𝕄) :
    iprop(owns (c : Thread nD τ) arg2 fullShare x ∗ owns (c : Thread nD τ) arg3 fullShare y ∗ owns (c : Thread nD τ) arg4 fullShare o ∗ (∃ d, owns (c : Thread nD τ) arg5 fullShare d)
        ∗ (iprop(owns (c : Thread nD τ) arg2 fullShare x ∗ owns (c : Thread nD τ) arg3 fullShare y ∗ owns (c : Thread nD τ) arg4 fullShare o
            ∗ owns (c : Thread nD τ) arg5 fullShare (k1_pay2 (k1_pay1 (F := F)) x y)) -∗ K ⟨⟩))
      ⊢ wp frame (wpE (defs₀ (F := F)) Variants.none c none) E (cc1__mm2_descend_body i arg2 harg2 arg3 harg3 arg4 harg4 arg5 harg5) K := by
  simp only [cc1__mm2_descend_body_eq_skeleton]; unfold cc1__mm2_descend_body_skel
  unfold owns
  iintro ⟨⟨%f2, %hf2, H2⟩, ⟨%f3, %hf3, H3⟩, H4, ⟨%d5, %f5, -, H5⟩, Hk⟩
  obtain rfl := harg2.eq_unread hf2; obtain rfl := harg3.eq_unread hf3
  sl_exec (disch := first | sl_exact h0 | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]; · iexact H4
  · iexists _; isplitr; swap; (· iexact H5); ipureintro
    rw [View.read_writes_eq_canon _ _ _ (fun z => View.cover_of_tiledL _ S1024x2048.size (by sl_kernel_rfl) z)]
    sl_unfold_words
    rw [View.canon_cons_unit_zero (S := S1024x2048) origin2]
    simp only [View.readAt_eq_ld, View.ld_unit_zero (S := S1024x2048) origin2, View.ld_unit_zero (S := S1024x512) origin2, View.ld_unit_zero (S := S512x2048) origin2, View.readCov_unit_zero (S := S1024x2048) _ origin2, harg2.read_unread, harg3.read_unread]

set_option maxHeartbeats 1600000 in
/-- At a middle point the product of the two blocks is added into the scratch; the output is not touched. -/
theorem body_B (c : Dev nD) (i : grid1.Coords) (arg2 : Memref sig .tc .vmem S1024x512 .f32) (harg2 : arg2.IsWhole) (arg3 : Memref sig .tc .vmem S512x2048 .f32) (harg3 : arg3.IsWhole)
    (arg4 : Memref sig .tc .vmem S1024x11 .i32) (harg4 : arg4.IsWhole) (arg5 : Memref sig .tc .vmem S1024x2048 .f32) (harg5 : arg5.IsWhole)
    (h0 : ¬isFirst i) (h1 : ¬isLast i) (x : Vec F S1024x512 .f32) (y : Vec F S512x2048 .f32) (s : Vec F S1024x2048 .f32) (o : Vec F S1024x11 .i32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k1_pay2 s x y)) -∗ K ⟨⟩))
      ⊢ wp frame (wpE (defs₀ (F := F)) Variants.none c none) E (cc1__mm2_descend_body i arg2 harg2 arg3 harg3 arg4 harg4 arg5 harg5) K := by
  simp only [cc1__mm2_descend_body_eq_skeleton]; unfold cc1__mm2_descend_body_skel
  unfold owns
  iintro ⟨⟨%f2, %hf2, H2⟩, ⟨%f3, %hf3, H3⟩, H4, ⟨%f5, %hf5, H5⟩, Hk⟩
  obtain rfl := harg2.eq_unread hf2; obtain rfl := harg3.eq_unread hf3
  obtain rfl := harg5.eq_unread hf5
  sl_exec (disch := first | sl_exact h0 | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]; · iexact H4
  · iexists _; isplitr; swap; (· iexact H5); ipureintro
    rw [View.read_writes_eq_canon _ _ _ (fun z => View.cover_of_tiledL _ S1024x2048.size (by sl_kernel_rfl) z)]
    sl_unfold_words
    rw [View.canon_unit_zero (S := S1024x2048) origin2]
    simp only [View.readAt_eq_ld, View.ld_unit_zero (S := S1024x2048) origin2, View.ld_unit_zero (S := S1024x512) origin2, View.ld_unit_zero (S := S512x2048) origin2, View.readCov_unit_zero (S := S1024x2048) _ origin2, harg2.read_unread, harg3.read_unread, harg5.read_unread]

set_option maxHeartbeats 1600000 in
/-- At the last point of a run the last product is added into the scratch and the output is stored from it. -/
theorem body_C (c : Dev nD) (i : grid1.Coords) (arg2 : Memref sig .tc .vmem S1024x512 .f32) (harg2 : arg2.IsWhole) (arg3 : Memref sig .tc .vmem S512x2048 .f32) (harg3 : arg3.IsWhole)
    (arg4 : Memref sig .tc .vmem S1024x11 .i32) (harg4 : arg4.IsWhole) (arg5 : Memref sig .tc .vmem S1024x2048 .f32) (harg5 : arg5.IsWhole)
    (h0 : ¬isFirst i) (h1 : isLast i) (x : Vec F S1024x512 .f32) (y : Vec F S512x2048 .f32) (s : Vec F S1024x2048 .f32) (E : Set ℕ) (K : PUnit → sProp 𝕄) :
    iprop(owns (c : Thread nD τ) arg2 fullShare x ∗ owns (c : Thread nD τ) arg3 fullShare y ∗ (∃ d, owns (c : Thread nD τ) arg4 fullShare d) ∗ owns (c : Thread nD τ) arg5 fullShare s
        ∗ (iprop(owns (c : Thread nD τ) arg2 fullShare x ∗ owns (c : Thread nD τ) arg3 fullShare y ∗ owns (c : Thread nD τ) arg4 fullShare (descended (k1_pay2 s x y))
            ∗ owns (c : Thread nD τ) arg5 fullShare (k1_pay2 s x y)) -∗ K ⟨⟩))
      ⊢ wp frame (wpE (defs₀ (F := F)) Variants.none c none) E (cc1__mm2_descend_body i arg2 harg2 arg3 harg3 arg4 harg4 arg5 harg5) K := by
  simp only [cc1__mm2_descend_body_eq_skeleton]; unfold cc1__mm2_descend_body_skel
  simp only [k1_part1_eq_skeleton, k1_part2_eq_skeleton, k1_part3_eq_skeleton, k1_part4_eq_skeleton, k1_part5_eq_skeleton, k1_part6_eq_skeleton]
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3
  obtain rfl := harg5.eq_unread hf5
  sl_exec (disch := first | sl_exact h0 | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; (· iexact H4); ipureintro
    rw [View.read_writes_eq_canon _ _ _ (fun z => View.cover_of_tiledL _ S1024x11.size (by sl_kernel_rfl) z)]
    sl_unfold_words
    rw [View.canon_unit_zero (S := S1024x11) origin2]
    simp only [View.readAt_eq_ld, View.ld_unit_zero (S := S1024x2048) origin2, View.ld_unit_zero (S := S1024x512) origin2, View.ld_unit_zero (S := S512x2048) origin2, View.readCov_unit_zero (S := S1024x2048) _ origin2, harg2.read_unread, harg3.read_unread, harg5.read_unread]
    rfl
  · iexists _; isplitr; swap; (· iexact H5); ipureintro
    rw [View.read_writes_eq_canon _ _ _ (fun z => View.cover_of_tiledL _ S1024x2048.size (by sl_kernel_rfl) z)]
    sl_unfold_words
    rw [View.canon_unit_zero (S := S1024x2048) origin2]
    simp only [View.readAt_eq_ld, View.ld_unit_zero (S := S1024x2048) origin2, View.ld_unit_zero (S := S1024x512) origin2, View.ld_unit_zero (S := S512x2048) origin2, View.readCov_unit_zero (S := S1024x2048) _ origin2, harg2.read_unread, harg3.read_unread, harg5.read_unread]

end Cert.KernelIdeal.R1

end
-- ==== Proof.KernelIdeal.Region1.lean ====
/-
  Kernel region 1: the blocks, the scratch point by point, the proof data and the body obligation, over any entry contents `W`.
-/
module

public import proofs.«01_k».proof.Proof.KernelIdeal.Body1
public import proofs.«01_k».proof.Proof.Gen.KernelIdeal.Points
public import proofs.«01_k».proof.Proof.Gen.KernelIdeal.Launch

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks and what the scratch holds after each point -/

variable (W : Dev nD → Valuation τ sig (Elt F))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- What the scratch holds after point `n`: the running sum of the block products of `n`'s run of four points. -/
def scr (c : Dev nD) : (n : ℕ) → n < cfg1.N → Vec F S1024x2048 .f32
  | 0, h => k1_pay2 (k1_pay1 (F := F)) (blk W c 0 ⟨0, h⟩) (blk W c 1 ⟨0, h⟩)
  | n + 1, h => k1_pay2 (if (n + 1) % 4 = 0 then k1_pay1 (F := F) else scr c n (Nat.lt_of_succ_lt h)) (blk W c 0 ⟨n + 1, h⟩) (blk W c 1 ⟨n + 1, h⟩)

theorem scr_first (c : Dev nD) (t : Fin cfg1.N) (h : t.val % 4 = 0) :
    scr W c t.val t.isLt = k1_pay2 (k1_pay1 (F := F)) (blk W c 0 t) (blk W c 1 t) := by
  obtain ⟨n, hn⟩ := t
  cases n with
  | zero => rfl
  | succ n => show k1_pay2 (if (n + 1) % 4 = 0 then _ else _) _ _ = _; rw [if_pos h]

theorem scr_next (c : Dev nD) (t : Fin cfg1.N) (h : ¬t.val % 4 = 0) :
    scr W c t.val t.isLt = k1_pay2 (scr W c (t.val - 1) (Nat.lt_of_le_of_lt (Nat.sub_le _ _) t.isLt)) (blk W c 0 t) (blk W c 1 t) := by
  obtain ⟨n, hn⟩ := t
  cases n with
  | zero => exact absurd (Nat.zero_mod _) h
  | succ n => show k1_pay2 (if (n + 1) % 4 = 0 then _ else _) _ _ = _; rw [if_neg h]; rfl

/-! ## The region's proof data -/

/-- The scratch operand as a memref. -/
abbrev scM : Memref sig .tc .vmem S1024x2048 .f32 := Memref.whole cc1_scratch0

/-- The scoped buffers of the core the region uses neither for staging nor as its scratch, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped buffers no window stages: the scratch at some contents, and the others. -/
theorem scopedRest_split (c : Dev nD) :
    (Pipeline.scopedRest (Ix := Unit) (Name := ℕ) (U := UR sig nD τ) (Lvl := ℕ) (Val := Elt F) spec1 c : sProp 𝕄)
      ⊢ iprop((∃ d, owns (c : Thread nD τ) scM fullShare d) ∗ others (F := F) c) := by
  rw [scopedRest1_eq]; unfold others; simp only [scM, owns_whole]
  iintro ⟨G0, G1, G2, G3, G4, G5, G6, HS⟩
  isplitl [HS]; · iexact HS
  isplitl [G0]; · iexact G0
  isplitl [G1]; · iexact G1
  isplitl [G2]; · iexact G2
  isplitl [G3]; · iexact G3
  isplitl [G4]; · iexact G4
  isplitl [G5]; · iexact G5
  iexact G6

theorem scopedRest_join (c : Dev nD) :
    iprop((∃ d, owns (c : Thread nD τ) scM fullShare d) ∗ others (F := F) c)
      ⊢ (Pipeline.scopedRest (Ix := Unit) (Name := ℕ) (U := UR sig nD τ) (Lvl := ℕ) (Val := Elt F) spec1 c : sProp 𝕄) := by
  rw [scopedRest1_eq]; unfold others; simp only [scM, owns_whole]
  iintro ⟨HS, ⟨G0, G1, G2, G3, G4, G5, G6⟩⟩
  isplitl [G0]; · iexact G0
  isplitl [G1]; · iexact G1
  isplitl [G2]; · iexact G2
  isplitl [G3]; · iexact G3
  isplitl [G4]; · iexact G4
  isplitl [G5]; · iexact G5
  isplitl [G6]; · iexact G6
  iexact HS

/-- The invariant before point `n`: before the first point the scratch holds anything, afterwards what the point before left. -/
def inv (c : Dev nD) : (n : ℕ) → n ≤ cfg1.N → sProp 𝕄
  | 0, _ => iprop((∃ d, owns (c : Thread nD τ) scM fullShare d) ∗ others (F := F) c)
  | n + 1, hn => iprop(owns (c : Thread nD τ) scM fullShare (scr W c n hn) ∗ others (F := F) c)

theorem inv_zero (c : Dev nD) (n : ℕ) (h : n ≤ cfg1.N) (hz : n = 0) :
    inv W c n h = iprop((∃ d, owns (c : Thread nD τ) scM fullShare d) ∗ others (F := F) c) := by subst hz; rfl
theorem inv_succ (c : Dev nD) (n : ℕ) (hn : n < cfg1.N) :
    inv W c (n + 1) hn = iprop(owns (c : Thread nD τ) scM fullShare (scr W c n hn) ∗ others (F := F) c) := rfl
theorem inv_pos (c : Dev nD) (n : ℕ) (h : n ≤ cfg1.N) (hz : n ≠ 0) :
    inv W c n h = iprop(owns (c : Thread nD τ) scM fullShare (scr W c (n - 1) (by omega)) ∗ others (F := F) c) := by
  cases n with
  | zero => exact absurd rfl hz
  | succ n => rfl

/-- The region's proof data from the entry contents `W`: the arrays as found; after the body the inputs' buffers at their blocks
    and the output's at what a storing point stores; the invariant above; nothing owed. -/
def dat (c : Dev nD) : Dat τ (Elt F) Unit ℕ (UR sig nD τ) ℕ cfg1 c where
  A w := W c (Proc.devRef .tc (Pipeline.arrRef spec1 w))
  after w t := match w with
    | ⟨0, _⟩ => blk W c 0 t
    | ⟨1, _⟩ => blk W c 1 t
    | ⟨2, _⟩ => descended (scr W c t.val t.isLt)
  Φ t := inv W c t.val (Nat.le_of_lt_succ t.isLt)
  q _ := fullShare
  owed _ := 0

theorem A_eq (c : Dev nD) (w : Fin cfg1.W) : (dat W c).A w = W c (Proc.devRef .tc (Pipeline.arrRef spec1 w)) := by dsimp only [dat]
theorem after_0 (c : Dev nD) (t : Fin cfg1.N) : (dat W c).after 0 t = blk W c 0 t := by dsimp only [dat]
theorem after_1 (c : Dev nD) (t : Fin cfg1.N) : (dat W c).after 1 t = blk W c 1 t := by dsimp only [dat]
theorem after_2 (c : Dev nD) (t : Fin cfg1.N) : (dat W c).after 2 t = descended (scr W c t.val t.isLt) := by dsimp only [dat]
theorem inv_castSucc (c : Dev nD) (t : Fin cfg1.N) : (dat W c).Φ t.castSucc = inv W c t.val (Nat.le_of_lt t.isLt) := by
  dsimp only [dat]; exact Pipeline.Dat.Φ_castSucc (inv W c) t

/-- Each input's staging buffer holds its block when the body runs. -/
theorem before_0 (c : Dev nD) (t : Fin cfg1.N) (d) : (dat W c).before 0 t d = blk W c 0 t :=
  ((dat W c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat W c).before 1 t d = blk W c 1 t :=
  ((dat W c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)

/-- Off the last point of a run the output window is idle and not written back. -/
theorem idle_2 : ∀ t : Fin cfg1.N, ¬t.val % 4 = 3 → cfg1.idle 2 (grid1.coords t) = true := by decide +kernel
theorem noFlush_2 : ∀ t : Fin cfg1.N, ¬t.val % 4 = 3 → (cfg1.win 2).flush t = false := by decide +kernel
theorem live_2 : ∀ t : Fin cfg1.N, t.val % 4 = 3 → cfg1.idle 2 (grid1.coords t) = false := by decide +kernel

/-- Each window's staging memref at point `t`. -/
abbrev ms_0 (t : Fin cfg1.N) : Memref sig .tc .vmem S1024x512 .f32 := win1_0.stage (cfg1.slots t 0)
abbrev ms_1 (t : Fin cfg1.N) : Memref sig .tc .vmem S512x2048 .f32 := win1_1.stage (cfg1.slots t 1)
abbrev ms_2 (t : Fin cfg1.N) : Memref sig .tc .vmem S1024x11 .i32 := win1_2.stage (cfg1.slots t 2)

theorem leaves_0 (c : Dev nD) (t : Fin cfg1.N) :
    (dat W c).leavesExact 0 t = owns (c : Thread nD τ) (ms_0 t) fullShare (blk W c 0 t) := by
  unfold Dat.leavesExact; rw [show cfg1.idle 0 (grid1.coords t) = false from rfl, after_0]
theorem leaves_1 (c : Dev nD) (t : Fin cfg1.N) :
    (dat W c).leavesExact 1 t = owns (c : Thread nD τ) (ms_1 t) fullShare (blk W c 1 t) := by
  unfold Dat.leavesExact; rw [show cfg1.idle 1 (grid1.coords t) = false from rfl, after_1]
theorem leaves_2 (c : Dev nD) (t : Fin cfg1.N) (h : t.val % 4 = 3) :
    (dat W c).leavesExact 2 t = owns (c : Thread nD τ) (ms_2 t) fullShare (descended (scr W c t.val t.isLt)) := by
  unfold Dat.leavesExact; rw [live_2 t h, after_2]

/-- What the body is entered with at point `t`. -/
def bodyPre (c : Dev nD) (t : Fin cfg1.N) : sProp 𝕄 :=
  iprop((dat W c).Φ t.castSucc ∗ (dat W c).owesAt () t.castSucc
    ∗ (∃ d, owns (c : Thread nD τ) (ms_0 t) fullShare ((dat W c).before 0 t d))
    ∗ (∃ d, owns (c : Thread nD τ) (ms_1 t) fullShare ((dat W c).before 1 t d))
    ∗ (∃ d, owns (c : Thread nD τ) (ms_2 t) fullShare ((dat W c).before 2 t d)))
/-- What it leaves. -/
def bodyPost (c : Dev nD) (t : Fin cfg1.N) : sProp 𝕄 :=
  iprop((dat W c).Φ t.succ ∗ (dat W c).owesAt () t.succ
    ∗ (dat W c).leavesExact 0 t ∗ (dat W c).leavesExact 1 t ∗ (dat W c).leavesExact 2 t)

set_option maxHeartbeats 1600000 in
/-- The body at any point, by the kind of the point. -/
theorem body_at (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1]
  rw [show (dat W c).owesAt () t.succ = (dat W c).owesAt () t.castSucc from rfl,
    show (dat W c).Φ t.succ = inv W c (t.val + 1) t.isLt from rfl, inv_succ, inv_castSucc, leaves_0, leaves_1]
  by_cases h0 : t.val % 4 = 0
  · have h1 : ¬t.val % 4 = 3 := by omega
    rw [Dat.leavesExact_idle (dat W c) 2 t (idle_2 t h1) (noFlush_2 t h1), scr_first W c t h0]
    have hany : inv W c t.val (Nat.le_of_lt t.isLt) ⊢ iprop((∃ d, owns (c : Thread nD τ) scM fullShare d) ∗ others (F := F) c) := by
      by_cases hz : t.val = 0
      · rw [inv_zero W c _ _ hz]
      · rw [inv_pos W c _ _ hz]
        iintro ⟨HS, Ho⟩
        isplitl [HS]; · iexists _; iexact HS
        iexact Ho
    refine (sep_mono hany .rfl).trans ?_
    iintro ⟨⟨HS, Hg⟩, Ho, ⟨%d0, H0⟩, ⟨%d1, H1⟩, ⟨%d2, H2⟩⟩
    iapply (body_A c (grid1.coords t) _ _ _ _ _ _ _ _ ((isFirst_iff t).mpr h0) (fun h => h1 ((isLast_iff t).mp h)) (blk W c 0 t) (blk W c 1 t) _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists _; iexact H2
  · have hz : t.val ≠ 0 := fun h => h0 (by rw [h])
    rw [inv_pos W c _ _ hz]
    by_cases h1 : t.val % 4 = 3
    · rw [leaves_2 W c t h1, scr_next W c t h0]
      iintro ⟨⟨HS, Hg⟩, Ho, ⟨%d0, H0⟩, ⟨%d1, H1⟩, ⟨%d2, H2⟩⟩
      iapply (body_C c (grid1.coords t) _ _ _ _ _ _ _ _ (fun h => h0 ((isFirst_iff t).mp h)) ((isLast_iff t).mpr h1) (blk W c 0 t) (blk W c 1 t) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · rw [Dat.leavesExact_idle (dat W c) 2 t (idle_2 t h1) (noFlush_2 t h1), scr_next W c t h0]
      iintro ⟨⟨HS, Hg⟩, Ho, ⟨%d0, H0⟩, ⟨%d1, H1⟩, ⟨%d2, H2⟩⟩
      iapply (body_B c (grid1.coords t) _ _ _ _ _ _ _ _ (fun h => h0 ((isFirst_iff t).mp h)) (fun h => h1 ((isLast_iff t).mp h)) (blk W c 0 t) (blk W c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The pipeline's body obligation. -/
theorem body_obligation (c : Dev nD) : BodyObligation (dat W c) (defs₀ (F := F)) Variants.none () Set.univ := fun t => by
  rw [bigSep_W1, bigSep_W1,
    show defs₀ (F := F) .tc cfg1.body (cfg1.bodyArgs t (cfg1.slots t)) = bodyAt1 t from by unfold defs₀; rw [Defs.onTc_tc]]
  exact triple_restated (body_at W c t) rfl .rfl fun _ => .rfl

/-- The invariant holds when the region is entered, -/
theorem enter (c : Dev nD) :
    (Pipeline.scopedRest (Ix := Unit) (Name := ℕ) (U := UR sig nD τ) (Lvl := ℕ) (Val := Elt F) spec1 c : sProp 𝕄) ⊢ (dat W c).Φ 0 := by
  rw [show (dat W c).Φ 0 = inv W c 0 (Nat.zero_le _) from rfl, inv_zero W c 0 _ rfl]
  exact scopedRest_split c
/-- and gives the scoped buffers back when it is left. -/
theorem leave (c : Dev nD) :
    (dat W c).Φ (Fin.last cfg1.N) ⊢ (Pipeline.scopedRest (Ix := Unit) (Name := ℕ) (U := UR sig nD τ) (Lvl := ℕ) (Val := Elt F) spec1 c : sProp 𝕄) := by
  refine BIBase.Entails.trans ?_ (scopedRest_join c)
  rw [show (dat W c).Φ (Fin.last cfg1.N) = inv W c cfg1.N (Nat.le_of_lt_succ (Fin.last cfg1.N).isLt) from rfl,
    inv_pos W c _ _ (by rw [show cfg1.N = 16 from N_1]; decide)]
  iintro ⟨HS, Ho⟩
  isplitl [HS]; · iexists _; iexact HS
  iexact Ho

end Cert.KernelIdeal.R1

end
-- ==== Proof.KernelIdeal.Run.lean ====
/-
  The launch of the two kernel regions: the buffers' contents after each of the entry function's four items, the regions' records
  over them, and the run — every fair execution ends, with the arguments as launched, the result buffer at what the second
  region's output array ends at, and every semaphore counter zero.
-/
module

public import proofs.«01_k».proof.Proof.KernelIdeal.Region0
public import proofs.«01_k».proof.Proof.KernelIdeal.Region1
public import Idealize.ShloMosaic.Lib.Pipeline.RegionArraysS
public import Idealize.ShloMosaic.Lib.Pipeline.Regions
public import Idealize.ShloMosaic.Adequacy
public import Idealize.ShloMosaic.Init

@[expose] public section

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- After the first region: its arrays at their exit contents. -/
def W2 (c : Dev nD) : Valuation τ sig (Elt F) := Pipeline.afterRegion (R0.dat (V1 m) c) (V1 m c)
/-- After the host stretch that pads `x_i`. -/
def W3 (c : Dev nD) : Valuation τ sig (Elt F) := StableHlo.after hostOps1 (W2 m c)
/-- After the second region. -/
def W4 (c : Dev nD) : Valuation τ sig (Elt F) := Pipeline.afterRegion (R1.dat (W3 m) c) (W3 m c)
/-- The buffers the two regions may change, at those contents. -/
def outs : Outs (F := F) := fun j r c => if j = 2 then W2 m c (Proc.devRef .tc r) else W4 m c (Proc.devRef .tc r)

/-- Two contents that agree on `r` and off it are one an update of the other at `r`. -/
theorem update_of_agree (V V' : Valuation τ sig (Elt F)) (r : DevRef τ sig) (h : ∀ b, b ≠ r → V' b = V b) :
    Function.update V r (V' r) = V' := by
  funext b
  by_cases hb : b = r
  · subst hb; rw [Function.update_self]
  · rw [Function.update_of_ne hb, h b hb]

/-- A region changes its output window's array only. -/
theorem W2_off (c : Dev nD) (b : DevRef τ sig) (hb : b ≠ Proc.devRef .tc main_call0_v2) : W2 m c b = V1 m c b := by
  unfold W2
  by_cases h : ∃ w, b = Proc.devRef .tc (Pipeline.arrRef cfg0.spec w)
  · obtain ⟨w, rfl⟩ := h
    refine Pipeline.afterRegion_keeps (R0.dat (V1 m) c) (V1 m c) launch0.win.arr_inj (fun w => R0.A_eq (V1 m) c w) _ fun w' e => ?_
    match w' with
    | ⟨0, _⟩ => rfl
    | ⟨1, _⟩ => rfl
    | ⟨2, _⟩ => exact absurd (congrArg (Proc.devRef (τ := τ) .tc) e.symm) hb
  · unfold Pipeline.afterRegion; rw [dif_neg h]
theorem W4_off (c : Dev nD) (b : DevRef τ sig) (hb : b ≠ Proc.devRef .tc main_v0) : W4 m c b = W3 m c b := by
  unfold W4
  by_cases h : ∃ w, b = Proc.devRef .tc (Pipeline.arrRef cfg1.spec w)
  · obtain ⟨w, rfl⟩ := h
    refine Pipeline.afterRegion_keeps (R1.dat (W3 m) c) (W3 m c) launch1.win.arr_inj (fun w => R1.A_eq (W3 m) c w) _ fun w' e => ?_
    match w' with
    | ⟨0, _⟩ => rfl
    | ⟨1, _⟩ => rfl
    | ⟨2, _⟩ => exact absurd (congrArg (Proc.devRef (τ := τ) .tc) e.symm) hb
  · unfold Pipeline.afterRegion; rw [dif_neg h]

theorem V2_eq (c : Dev nD) : V2 m (outs m) c = W2 m c :=
  update_of_agree (V1 m c) (W2 m c) _ (W2_off m c)
theorem V3_eq (c : Dev nD) : V3 m (outs m) c = W3 m c := by
  show StableHlo.after hostOps1 (V2 m (outs m) c) = _
  rw [V2_eq]; rfl
theorem V4_eq (c : Dev nD) : V4 m (outs m) c = W4 m c := by
  show Function.update (V3 m (outs m) c) _ (W4 m c _) = _
  rw [V3_eq]
  exact update_of_agree (W3 m c) (W4 m c) _ (W4_off m c)

/-- What the result buffer ends at: the second region's output array after all its points. -/
theorem W4_result (c : Dev nD) : W4 m c (Proc.devRef .tc main_v0) = (R1.dat (W3 m) c).arrAt 2 cfg1.N :=
  Pipeline.afterRegion_arr (R1.dat (W3 m) c) (W3 m c) launch1.win.arr_inj 2
/-- What the first region's output array holds when the second region starts. -/
theorem W2_f (c : Dev nD) : W2 m c (Proc.devRef .tc main_call0_v2) = (R0.dat (V1 m) c).arrAt 2 cfg0.N :=
  Pipeline.afterRegion_arr (R0.dat (V1 m) c) (V1 m c) launch0.win.arr_inj 2

/-! ## The regions' records -/

/-- The proof data of the two regions. -/
def dats : (p : Fin 2) → (c : Dev nD) → Dat τ (Elt F) Unit ℕ (UR sig nD τ) ℕ (cfgs p) c
  | ⟨0, _⟩, c => R0.dat (V1 m) c
  | ⟨1, _⟩, c => R1.dat (W3 m) c

/-- The one wait index is assigned at every TensorCore cell, at level 0; nothing is owed. -/
abbrev lvIx : GSem nD τ sig → Finset Unit := fun g => if g.1.2 = .tc then Finset.univ else ∅
abbrev lvAt : GSem nD τ sig → Unit → ℕ := fun _ _ => 0
abbrev nothing : Dev nD → CellTallies nD τ sig Unit := fun _ => 0

theorem cut (p : Fin 2) : Pipeline.LevelCut (pcfgs (F := F)) adm () lvIx lvAt p nothing (fun _ => 0) where
  hι c w s := by
    show () ∈ (if _ then Finset.univ else ∅)
    rw [if_pos rfl]; exact Finset.mem_univ _
  hιb c w s := Nat.le_refl 0
  hD c g i h := absurd h (lt_irrefl _)

/-- What rides beside the buffers: the core owes nothing. -/
def ride : Fin 3 → Dev nD → sProp 𝕄 := fun _ c =>
  iprop((∃ Wd, owes (c : Thread nD τ) (nothing c) Wd) ∗ BI.emp ∗ BI.emp)

theorem enter0 (c : Dev nD) :
    iprop((Pipeline.scopedRest (Ix := Unit) (Name := ℕ) (U := UR sig nD τ) (Lvl := ℕ) (Val := Elt F) spec0 c : sProp 𝕄) ∗ BI.emp) ⊢ (R0.dat (V1 m) c).Φ 0 := by
  iintro ⟨H, -⟩; iapply (R0.enter (V1 m) c); iexact H
theorem leave0 (c : Dev nD) : (R0.dat (V1 m) c).Φ (Fin.last cfg0.N)
    ⊢ iprop((Pipeline.scopedRest (Ix := Unit) (Name := ℕ) (U := UR sig nD τ) (Lvl := ℕ) (Val := Elt F) spec0 c : sProp 𝕄) ∗ BI.emp) := by
  iintro H
  isplitl [H]; · iapply (R0.leave (V1 m) c); iexact H
  iempintro
def reg0 : RegionSeg (pcfgs (F := F)) adm (dats m) () defs₀ Variants.none lvIx lvAt 0 :=
  RegionSeg.ofHeldIn (pcfgs (F := F)) adm (dats m) () defs₀ Variants.none lvIx lvAt 0 nothing (Pipeline.ucRefs τ sig)
    (fun _ => BI.emp) (fun _ => BI.emp) launch0.toP rfl
    (fun c => (R0.body_obligation (V1 m) c).loose) (fun _ _ => rfl) (fun _ => rfl) (fun c => (R0.dat (V1 m) c).share_full fun _ => rfl)
    (enter0 m)
    (leave0 m)
    (fun _ => 0) (cut 0) (fun _ => BI.emp) (V1 m) (fun c w => R0.A_eq (V1 m) c w)

theorem enter1 (c : Dev nD) :
    iprop((Pipeline.scopedRest (Ix := Unit) (Name := ℕ) (U := UR sig nD τ) (Lvl := ℕ) (Val := Elt F) spec1 c : sProp 𝕄) ∗ BI.emp) ⊢ (R1.dat (W3 m) c).Φ 0 := by
  iintro ⟨H, -⟩; iapply (R1.enter (W3 m) c); iexact H
theorem leave1 (c : Dev nD) : (R1.dat (W3 m) c).Φ (Fin.last cfg1.N)
    ⊢ iprop((Pipeline.scopedRest (Ix := Unit) (Name := ℕ) (U := UR sig nD τ) (Lvl := ℕ) (Val := Elt F) spec1 c : sProp 𝕄) ∗ BI.emp) := by
  iintro H
  isplitl [H]; · iapply (R1.leave (W3 m) c); iexact H
  iempintro
def reg1 : RegionSeg (pcfgs (F := F)) adm (dats m) () defs₀ Variants.none lvIx lvAt 1 :=
  RegionSeg.ofHeldIn (pcfgs (F := F)) adm (dats m) () defs₀ Variants.none lvIx lvAt 1 nothing (Pipeline.ucRefs τ sig)
    (fun _ => BI.emp) (fun _ => BI.emp) launch1.toP rfl
    (fun c => (R1.body_obligation (W3 m) c).loose) (fun _ _ => rfl) (fun _ => rfl) (fun c => (R1.dat (W3 m) c).share_full fun _ => rfl)
    (enter1 m)
    (leave1 m)
    (fun _ => 0) (cut 1) (fun _ => BI.emp) (W3 m) (fun c w => R1.A_eq (W3 m) c w)

/-- Both regions' arrays are among the unscoped buffers. -/
theorem arrs0 : Pipeline.arrRefs (τ := τ) (pcfgs (F := F) 0).spec ⊆ Pipeline.ucRefs τ sig :=
  Pipeline.arrRefs_sub_ucRefs spec0 (by decide)
theorem arrs1 : Pipeline.arrRefs (τ := τ) (pcfgs (F := F) 1).spec ⊆ Pipeline.ucRefs τ sig :=
  Pipeline.arrRefs_sub_ucRefs spec1 (by decide)

/-! ## The links between the items -/

/-- All the unscoped buffers of core `c` at the contents `V`. -/
abbrev heldAt (c : Dev nD) (V : Valuation τ sig (Elt F)) : sProp 𝕄 := StableHlo.held (c : Thread nD τ) (Pipeline.ucRefs τ sig) V

theorem pre0 (c : Dev nD) : iprop(heldAt c (V1 m c) ∗ ride 0 c) ⊢ (reg0 m).pre c := by
  unfold reg0 ride; exact RegionSeg.ofHeldIn_pre (pcs := pcfgs (F := F)) (a := adm) (pdats := dats m) (ι := ()) (defs₀ := defs₀) (𝒱₀ := Variants.none) (L := lvIx) (lv := lvAt) (D := nothing) (X := fun _ => BI.emp) (Y := fun _ => BI.emp) (R := fun _ => BI.emp) (W := V1 m) arrs0 c
theorem post0 (c : Dev nD) : (reg0 m).post c ⊢ iprop(heldAt c (V2 m (outs m) c) ∗ ride 1 c) := by
  rw [V2_eq]; unfold reg0 ride; exact RegionSeg.ofHeldIn_post (pcs := pcfgs (F := F)) (arrs0 (F := F)) c
theorem pre1 (c : Dev nD) : iprop(heldAt c (V3 m (outs m) c) ∗ ride 1 c) ⊢ (reg1 m).pre c := by
  rw [V3_eq]; unfold reg1 ride; exact RegionSeg.ofHeldIn_pre (pcs := pcfgs (F := F)) (a := adm) (pdats := dats m) (ι := ()) (defs₀ := defs₀) (𝒱₀ := Variants.none) (L := lvIx) (lv := lvAt) (D := nothing) (X := fun _ => BI.emp) (Y := fun _ => BI.emp) (R := fun _ => BI.emp) (W := W3 m) arrs1 c
theorem post1 (c : Dev nD) : (reg1 m).post c
    ⊢ iprop(heldAt c (V4 m (outs m) c) ∗ ∃ Wd, owes (c : Thread nD τ) (0 : CellTallies nD τ sig Unit) Wd) := by
  rw [V4_eq]; unfold reg1
  refine (RegionSeg.ofHeldIn_post (pcs := pcfgs (F := F)) (arrs1 (F := F)) c).trans ?_
  iintro ⟨Hh, HO, -, -⟩
  isplitl [Hh]; · iexact Hh
  iexact HO

/-! ## The run -/

/-- What the run ends at on core `c`: the result at the second region's output array, the arguments as launched. -/
abbrev ends (s : MemSt nD τ sig (Elt F)) (c : Dev nD) : Prop :=
  s.mem ((c : Thread nD τ).loc main_v0) = (R1.dat (W3 m) c).arrAt 2 cfg1.N
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

/-- An unscoped buffer is among those held at the end. -/
theorem mem_held (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

-- the run theorem's implicit arguments are found by unifying its conclusion with this one
set_option backward.isDefEq.respectTransparency.types false in
set_option maxHeartbeats 1600000 in
theorem run (ρ : Dev nD → PrngReg) :
    θ_run defs (onTc (τ := τ) (main (F := F))) ⟨m, fun _ => 0, ρ⟩ (fun r => (∀ c : Dev nD, ends m r.2 c) ∧ r.2.sem = fun _ => 0) := by
  refine Pipeline.θ_run_regions_kit_dev_sems (pcfgs (F := F)) adm (dats m) () cellOf_inj (emb₁ : Emb (URounds (GSem nD τ sig) Unit) 𝕄) defs₀ Variants.none lvIx lvAt m ρ main
    (segs m (outs m) Variants.none lvIx lvAt ride () (dats m) (reg0 m) (reg1 m))
    (fun c Q => by
      rewrite [main_chain c, Seg.run_eq_chain,
        show (segs m (outs m) Variants.none lvIx lvAt ride () (dats m) (reg0 m) (reg1 m) c).map Seg.prog = [
          StableHlo.seq hostOps0, Prog.lift (.customCall (Pipeline.entry 0) ()),
          StableHlo.seq hostOps1, Prog.lift (.customCall (Pipeline.entry 1) ())] from rfl]
      dsimp (config := { failIfUnchanged := false }) only
      exact .rfl)
    (fun c => by simp only [segs, Seg.pipes_host, Seg.pipes_region, Seg.pipes_nil]; decide) nothing
    (fun g h => if_neg h) (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ ride 0 c))
    (Tₙ := fun c => StableHlo.held (c : Thread nD τ) (Pipeline.ucRefs τ sig) (V4 m (outs m) c))
    (hch := fun c => ⟨.rfl, pre0 m c, post0 m c, pre1 m c, post1 m c⟩)
    (hinit := Pipeline.initEach lvIx lvAt fun c => ?_)
    (QY := fun c s => ends m s c)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own ((emb₁ : Emb (URounds (GSem nD τ sig) Unit) 𝕄) (initOf (Pipeline.cells cfgs cellOf_inj) (Pipeline.launchToks cfgs cellOf_inj))) from .rfl)
      iexact Hu
    · iapply (show (BI.emp : sProp 𝕄) ⊢ bigSep Finset.univ (fun _ : Dev nD => BI.emp) from by rw [BI.bigSep_emp_const])
      iempintro
  · rw [← Pipeline.unscopedBufs_held (Ix := Unit) (Name := ℕ) (U := UR sig nD τ) (Lvl := ℕ) c (V0 m c)]
    unfold ride
    iintro ⟨⟨Hb, -, HO, -, -, -⟩, -⟩
    imodintro
    isplitl [Hb]; · iexact Hb
    isplitl [HO]; · iexists ∅; iexact HO
    isplitl []; · iempintro
    iempintro
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h _ (mem_held main_v0 (by decide))).trans ((congrFun (V4_eq m c) _).trans (W4_result m c)),
        (h _ (mem_held main_arg0 (by decide))).trans (V4_main_arg0 m (outs m) c),
        (h _ (mem_held main_arg1 (by decide))).trans (V4_main_arg1 m (outs m) c),
        (h _ (mem_held main_arg2 (by decide))).trans (V4_main_arg2 m (outs m) c)⟩
    · iexact HSI

end Cert.KernelIdeal.Launch

end
-- ==== Proof.KernelIdeal.Value0.lean ====
/-
  Region 0 at the ideal instance: at a run's last point the scratch holds a block of rows of the product of the region's two
  operand arrays.
-/
module

public import proofs.«01_k».proof.Proof.KernelIdeal.Region0
public import Idealize.ShloMosaic.Lib.Pointwise
public import Idealize.ShloMosaic.Lib.Pipeline.ValueKit

@[expose] public section

set_option maxRecDepth 16384

noncomputable section

namespace Cert.KernelIdeal.R0

open Cert.KernelIdeal Cert.KernelIdeal.Gen
open Idealize.ShloMosaic Idealize.ShloMosaic.TcCoe Idealize.SL.Sem
open Idealize.ShloMosaic.Pipeline (Dat)

/-- The scratch's first fill is zero. -/
theorem zero_apply (j : S1024x2048.Idx) : k0_pay1 (F := Ideal) j = 0 := by
  idx_vars j
  pointwise [k0_pay1]

/-- A point adds its blocks' product. -/
theorem add_apply (acc : Vec Ideal S1024x2048 .f32) (a : Vec Ideal S1024x512 .bf16) (b : Vec Ideal S512x2048 .bf16) (j : S1024x2048.Idx) :
    k0_pay2 (F := Ideal) acc a b j = acc j + ∑ k : Fin 512, a (ix2 (j 0) k) * b (ix2 k (j 1)) := by
  idx_vars j
  pointwise [k0_pay2]

/-- Each window's block index: point `t` is row block `t / 4`, step `t % 4`. -/
theorem idx : ∀ t : Fin cfg0.N, win0_0.index t = ![t.val / 4, t.val % 4] ∧ win0_1.index t = ![t.val % 4, 0] ∧ win0_2.index t = ![t.val / 4, 0] :=
  (by decide +kernel : ∀ t : Fin grid0.N, win0_0.index t = ![t.val / 4, t.val % 4] ∧ win0_1.index t = ![t.val % 4, 0] ∧ win0_2.index t = ![t.val / 4, 0])

variable (W : Dev nD → Valuation τ sig (Elt Ideal))

/-- The left operand's array as the region finds it. -/
abbrev lhs (c : Dev nD) : Vec Ideal S4096x2048 .bf16 := W c (Proc.devRef .tc main_call0_v0)
/-- The right operand's. -/
abbrev rhs (c : Dev nD) : Vec Ideal S2048x2048 .bf16 := W c (Proc.devRef .tc main_call0_v1)

/-- Entry `(i, j)` of the operands' product. -/
def prod (c : Dev nD) (i : Fin 4096) (j : Fin 2048) : EReal := ∑ l : Fin 2048, lhs W c (ix2 i l) * rhs W c (ix2 l j)

theorem scr_flush (c : Dev nD) (t : Fin cfg0.N) (hf : t.val % 4 = 3) (j : S1024x2048.Idx) :
    scr W c t.val t.isLt j = prod W c ⟨t.val / 4 * 1024 + (j 0).val, by have := t.isLt; have := (j 0).isLt; idx_bounds; omega⟩ (j 1) := by
  unfold prod
  rw [Pipeline.eq_sum_fin_of_reset_step_apply_of_flush (fun n h => scr W c n h) 4 (fun _ => 0) _
    (fun t h j => by rw [scr_first W c t h]; rw [add_apply, zero_apply]) (fun t h j => by rw [scr_next W c t h]; rw [add_apply])
    t hf _, zero_add]
  refine Fin.sum_mul_add_congr fun s k hl => ?_
  blk_point [blk, idx t, idx ⟨_, Pipeline.run_point_lt_of_flush t hf s⟩]

end Cert.KernelIdeal.R0

end
-- ==== Proof.KernelIdeal.Value1.lean ====
/-
  Region 1 at the ideal instance: at a run's last point the scratch holds a block of rows of the product of the region's two
  operand arrays.
-/
module

public import proofs.«01_k».proof.Proof.KernelIdeal.Region1
public import Idealize.ShloMosaic.Lib.Pointwise
public import Idealize.ShloMosaic.Lib.Pipeline.ValueKit

@[expose] public section

set_option maxRecDepth 16384

noncomputable section

namespace Cert.KernelIdeal.R1

open Cert.KernelIdeal Cert.KernelIdeal.Gen
open Idealize.ShloMosaic Idealize.ShloMosaic.TcCoe Idealize.SL.Sem
open Idealize.ShloMosaic.Pipeline (Dat)

/-- The scratch's first fill is zero. -/
theorem zero_apply (j : S1024x2048.Idx) : k1_pay1 (F := Ideal) j = 0 := by
  idx_vars j
  pointwise [k1_pay1]

/-- A point adds its blocks' product. -/
theorem add_apply (acc : Vec Ideal S1024x2048 .f32) (a : Vec Ideal S1024x512 .f32) (b : Vec Ideal S512x2048 .f32) (j : S1024x2048.Idx) :
    k1_pay2 (F := Ideal) acc a b j = acc j + ∑ k : Fin 512, a (ix2 (j 0) k) * b (ix2 k (j 1)) := by
  idx_vars j
  pointwise [k1_pay2]

/-- Each window's block index: point `t` is row block `t / 4`, step `t % 4`. -/
theorem idx : ∀ t : Fin cfg1.N, win1_0.index t = ![t.val / 4, t.val % 4] ∧ win1_1.index t = ![t.val % 4, 0] ∧ win1_2.index t = ![t.val / 4, 0] :=
  (by decide +kernel : ∀ t : Fin grid1.N, win1_0.index t = ![t.val / 4, t.val % 4] ∧ win1_1.index t = ![t.val % 4, 0] ∧ win1_2.index t = ![t.val / 4, 0])

variable (W : Dev nD → Valuation τ sig (Elt Ideal))

/-- The left operand's array as the region finds it. -/
abbrev lhs (c : Dev nD) : Vec Ideal S4096x2048 .f32 := W c (Proc.devRef .tc main_call0_v2)
/-- The right operand's. -/
abbrev rhs (c : Dev nD) : Vec Ideal S2048x2048 .f32 := W c (Proc.devRef .tc main_call0_v3)

/-- Entry `(i, j)` of the operands' product. -/
def prod (c : Dev nD) (i : Fin 4096) (j : Fin 2048) : EReal := ∑ l : Fin 2048, lhs W c (ix2 i l) * rhs W c (ix2 l j)

theorem scr_flush (c : Dev nD) (t : Fin cfg1.N) (hf : t.val % 4 = 3) (j : S1024x2048.Idx) :
    scr W c t.val t.isLt j = prod W c ⟨t.val / 4 * 1024 + (j 0).val, by have := t.isLt; have := (j 0).isLt; idx_bounds; omega⟩ (j 1) := by
  unfold prod
  rw [Pipeline.eq_sum_fin_of_reset_step_apply_of_flush (fun n h => scr W c n h) 4 (fun _ => 0) _
    (fun t h j => by rw [scr_first W c t h]; rw [add_apply, zero_apply]) (fun t h j => by rw [scr_next W c t h]; rw [add_apply])
    t hf _, zero_add]
  refine Fin.sum_mul_add_congr fun s k hl => ?_
  blk_point [blk, idx t, idx ⟨_, Pipeline.run_point_lt_of_flush t hf s⟩]

end Cert.KernelIdeal.R1

end
-- ==== Proof.Tree.lean ====
/-
  The descent as mathematics, and the kernel's way of taking one step of it.

  `g n` is the score of node `n + 1`; the children of the node at place `p` of level `k` have the scores
  `g (2 ^ (k + 1) - 2 + 2 p)` and the one after. `pos g k` is the place within level `k` of the node reached there; the node's own
  number is `2 ^ k - 1 + pos g k`.

  The kernel takes a step without a gather: over the whole level it keeps the two children's scores, the second negated, replaces
  the others by zero, sums, and compares the sum with zero. `step_word` says that this is the comparison of the two scores when
  they are finite.
-/
module

public import Idealize.ShloMosaic.Lib.IdealHost
public import Idealize.ShloMosaic.Lib.WordCmp
public import Idealize.ShloMosaic.Lib.Pointwise

@[expose] public section

noncomputable section

namespace Cert.Tree

open Idealize.ShloMosaic

/-- The place within level `k` of the node the descent reaches there. -/
def pos (g : ℕ → EReal) : ℕ → ℕ
  | 0 => 0
  | k + 1 => 2 * pos g k + if g (2 ^ (k + 1) - 2 + 2 * pos g k) < g (2 ^ (k + 1) - 2 + 2 * pos g k + 1) then 1 else 0

theorem pos_succ (g : ℕ → EReal) (k : ℕ) :
    pos g (k + 1) = 2 * pos g k + if g (2 ^ (k + 1) - 2 + 2 * pos g k) < g (2 ^ (k + 1) - 2 + 2 * pos g k + 1) then 1 else 0 := rfl

/-- Level `k` has `2 ^ k` places. -/
theorem pos_lt (g : ℕ → EReal) : ∀ k, pos g k < 2 ^ k
  | 0 => Nat.one_pos
  | k + 1 => by
    have := pos_lt g k
    rw [pos_succ, Nat.pow_succ]
    split <;> omega

/-- The descent depends on the scores of the first ten levels' nodes only. -/
theorem pos_congr {g g' : ℕ → EReal} (h : ∀ n, n < 2046 → g n = g' n) : ∀ k, k ≤ 10 → pos g k = pos g' k
  | 0, _ => rfl
  | k + 1, hk => by
    have ih := pos_congr h k (by omega)
    have hlt := pos_lt g' k
    have hp : 2 ^ (k + 1) ≤ 2 ^ 10 := Nat.pow_le_pow_right (by decide) hk
    rw [Nat.pow_succ] at hp
    rw [pos_succ, pos_succ, ih, Nat.pow_succ, h _ (by omega), h _ (by omega)]

/-! ## The step in words -/

theorem ofBits_neg_one : Ideal.ofBits .f32 0xBF800000#32 = (-1 : EReal) := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

theorem word_eq_iff (a : BitVec 32) (b : ℕ) (hb : b < 2 ^ 32) : IntOp.cmpi .eq a (BitVec.ofNat 32 b) = 1 ↔ a.toNat = b := by
  show BitVec.ofBool (a == BitVec.ofNat 32 b) = 1#1 ↔ _
  rw [show (1#1) = BitVec.ofBool true from rfl, BitVec.ofBool_eq_iff_eq, beq_iff_eq, ← BitVec.toNat_inj, BitVec.toNat_ofNat,
    Nat.mod_eq_of_lt hb]

/-- A lane's number shifted right by one is `M` exactly when its half is. -/
theorem half_eq (x M : ℕ) (hx : x < 2048) (hM : M < 2048) :
    IntOp.cmpi .eq (IntOp.shrsi .vector (BitVec.ofNat 32 x) 1#32) (BitVec.ofNat 32 M) = 1 ↔ x / 2 = M := by
  rw [word_eq_iff _ _ (by omega)]
  have hm : (BitVec.ofNat 32 x).msb = false := by
    rw [BitVec.msb_eq_false_iff_two_mul_lt, BitVec.toNat_ofNat]; omega
  have e : IntOp.shrsi .vector (BitVec.ofNat 32 x) 1#32 = BitVec.sshiftRight (BitVec.ofNat 32 x) 1 := rfl
  rw [e, BitVec.sshiftRight_eq_of_msb_false hm, BitVec.toNat_ushiftRight, BitVec.toNat_ofNat, Nat.mod_eq_of_lt (by omega),
    Nat.shiftRight_eq_div_pow, Nat.pow_one]

/-- A lane's number is even exactly when its lowest bit is 0. -/
theorem even_eq (x : ℕ) (hx : x < 2048) :
    IntOp.cmpi .eq (IntOp.andi (BitVec.ofNat 32 x) 1#32) 0#32 = 1 ↔ x % 2 = 0 := by
  rw [word_eq_iff _ 0 (by omega)]
  show (BitVec.ofNat 32 x &&& 1#32).toNat = 0 ↔ _
  rw [BitVec.toNat_and, BitVec.toNat_ofNat, Nat.mod_eq_of_lt (by omega)]
  show x &&& 1 = 0 ↔ _
  rw [Nat.and_one_is_mod]

/-- The sum over the level: only the two children remain. -/
theorem pick_sum {w : ℕ} (hw : w ≤ 1024) (c : Fin w → EReal) (M : ℕ) (h : 2 * M + 1 < w) :
    (∑ x : Fin w, Scalar.select (IntOp.cmpi .eq (IntOp.shrsi .vector (BitVec.ofNat 32 x.val) 1#32) (BitVec.ofNat 32 M))
        (c x * Scalar.select (IntOp.cmpi .eq (IntOp.andi (BitVec.ofNat 32 x.val) 1#32) 0#32) 1 (Ideal.ofBits .f32 0xBF800000#32)) 0)
      = c ⟨2 * M, by omega⟩ + -c ⟨2 * M + 1, h⟩ := by
  have hne : (⟨2 * M, by omega⟩ : Fin w) ≠ ⟨2 * M + 1, h⟩ := fun e => by simpa using congrArg Fin.val e
  rw [Fintype.sum_eq_add _ _ hne]
  · have h0 := (half_eq (2 * M) M (by omega) (by omega)).mpr (by omega)
    have h1 := (half_eq (2 * M + 1) M (by omega) (by omega)).mpr (by omega)
    have e0 := (even_eq (2 * M) (by omega)).mpr (by omega)
    have e1 : ¬_ := mt (even_eq (2 * M + 1) (by omega)).mp (by omega)
    unfold Scalar.select
    rw [if_pos h0, if_pos h1, if_pos e0, if_neg e1, ofBits_neg_one, mul_one, mul_comm _ (-1), EReal.neg_mul, one_mul]
  · rintro ⟨x, hx⟩ ⟨h0, h1⟩
    unfold Scalar.select
    rw [if_neg]
    intro e
    have := (half_eq x M (by omega) (by omega)).mp e
    rcases Nat.even_or_odd' x with ⟨q, hq | hq⟩
    · exact h0 (Fin.ext (by show x = 2 * M; omega))
    · exact h1 (Fin.ext (by show x = 2 * M + 1; omega))

/-- Neither infinity. -/
def Fin' (x : EReal) : Prop := x ≠ ⊤ ∧ x ≠ ⊥

theorem sub_neg_iff {a b : EReal} (ha : Fin' a) (hb : Fin' b) : a + -b < 0 ↔ a < b := by
  lift a to ℝ using ha
  lift b to ℝ using hb
  norm_cast
  constructor <;> intro h <;> linarith

/-- One step in words, from the place `M` of one level to the place in the next. -/
theorem step_word {w : ℕ} (hw : w ≤ 1024) (c : Fin w → EReal) (M : ℕ) (h : 2 * M + 1 < w) (hc : ∀ x, Fin' (c x)) :
    IntOp.addi (IntOp.muli 2#32 (BitVec.ofNat 32 M)) (BitVec.setWidth 32 (BitVec.ofBool (decide
      ((∑ x : Fin w, Scalar.select (IntOp.cmpi .eq (IntOp.shrsi .vector (BitVec.ofNat 32 x.val) 1#32) (BitVec.ofNat 32 M))
        (c x * Scalar.select (IntOp.cmpi .eq (IntOp.andi (BitVec.ofNat 32 x.val) 1#32) 0#32) 1 (Ideal.ofBits .f32 0xBF800000#32)) 0) < 0))))
      = BitVec.ofNat 32 (2 * M + if c ⟨2 * M, by omega⟩ < c ⟨2 * M + 1, h⟩ then 1 else 0) := by
  rw [pick_sum hw c M h, decide_eq_decide.mpr (sub_neg_iff (hc _) (hc _))]
  have e : IntOp.muli 2#32 (BitVec.ofNat 32 M) = BitVec.ofNat 32 (2 * M) := (BitVec.ofNat_mul 2 M).symm
  rw [e]
  split <;> rename_i hlt
  · rw [decide_eq_true hlt]; exact (BitVec.ofNat_add (2 * M) 1).symm
  · rw [decide_eq_false hlt]; exact (BitVec.ofNat_add (2 * M) 0).symm

/-- One step down from level `k`, on that level's `2 ^ (k + 1)` children. -/
theorem step_pos (g : ℕ → EReal) (hfin : ∀ n, n < 2046 → Fin' (g n)) (k B : ℕ) (hk : k < 10) (hB : B = 2 ^ (k + 1) - 2) {w : ℕ}
    (hw : w = 2 ^ (k + 1)) (c : Fin w → EReal) (hc : ∀ x, c x = g (B + x.val)) :
    IntOp.addi (IntOp.muli 2#32 (BitVec.ofNat 32 (pos g k))) (BitVec.setWidth 32 (BitVec.ofBool (decide
      ((∑ x : Fin w, Scalar.select (IntOp.cmpi .eq (IntOp.shrsi .vector (BitVec.ofNat 32 x.val) 1#32) (BitVec.ofNat 32 (pos g k)))
        (c x * Scalar.select (IntOp.cmpi .eq (IntOp.andi (BitVec.ofNat 32 x.val) 1#32) 0#32) 1 (Ideal.ofBits .f32 0xBF800000#32)) 0) < 0))))
      = BitVec.ofNat 32 (pos g (k + 1)) := by
  have hp : 2 ^ (k + 1) ≤ 2 ^ 10 := Nat.pow_le_pow_right (by decide) hk
  have hp' : 2 ^ (k + 1) = 2 ^ k * 2 := Nat.pow_succ ..
  have hlt := pos_lt g k
  have hM : 2 * pos g k + 1 < w := by omega
  rw [step_word (by omega) c (pos g k) hM fun x => by rw [hc]; exact hfin _ (by have := x.isLt; omega), pos_succ, hc, hc, ← hB]
  rfl

/-- A level's first node's number added to the place. -/
theorem add_word (a b : ℕ) : IntOp.addi (BitVec.ofNat 32 a) (BitVec.ofNat 32 b) = BitVec.ofNat 32 (a + b) :=
  (BitVec.ofNat_add a b).symm

/-! ## The scores -/

theorem fin_iff (x : EReal) : Fin' x ↔ ∃ r : ℝ, (r : EReal) = x :=
  ⟨fun h => ⟨x.toReal, EReal.coe_toReal h.1 h.2⟩, fun ⟨r, e⟩ => e ▸ ⟨EReal.coe_ne_top r, EReal.coe_ne_bot r⟩⟩

theorem fin_mul {a b : EReal} (ha : Fin' a) (hb : Fin' b) : Fin' (a * b) := by
  obtain ⟨x, rfl⟩ := (fin_iff a).mp ha
  obtain ⟨y, rfl⟩ := (fin_iff b).mp hb
  exact (fin_iff _).mpr ⟨x * y, EReal.coe_mul x y⟩

theorem fin_sum {n : ℕ} {f : Fin n → EReal} (h : ∀ i, Fin' (f i)) : Fin' (∑ i, f i) := by
  choose x hx using fun i => (fin_iff (f i)).mp (h i)
  refine (fin_iff _).mpr ⟨∑ i, x i, ?_⟩
  rw [← Finset.sum_congr rfl fun i _ => hx i]
  exact map_sum (⟨⟨fun r : ℝ => (r : EReal), EReal.coe_zero⟩, EReal.coe_add⟩ : ℝ →+ EReal) x Finset.univ

/-- The features `X · W`. -/
def feat (X : Fin 4096 → Fin 2048 → EReal) (W : Fin 2048 → Fin 2048 → EReal) (i : Fin 4096) (l : Fin 2048) : EReal :=
  ∑ k : Fin 2048, X i k * W k l

/-- The score of node `n + 1` for row `i`: the features against column `n` of `x_i`. -/
def score (X : Fin 4096 → Fin 2048 → EReal) (W : Fin 2048 → Fin 2048 → EReal) (Xi : Fin 2048 → Fin 2046 → EReal) (i : Fin 4096) (n : ℕ) :
    EReal :=
  if h : n < 2046 then ∑ l : Fin 2048, feat X W i l * Xi l ⟨n, h⟩ else 0

theorem score_fin {X : Fin 4096 → Fin 2048 → EReal} {W : Fin 2048 → Fin 2048 → EReal} {Xi : Fin 2048 → Fin 2046 → EReal}
    (hX : ∀ i k, Fin' (X i k)) (hW : ∀ k l, Fin' (W k l)) (hXi : ∀ l n, Fin' (Xi l n)) (i : Fin 4096) (n : ℕ) (h : n < 2046) :
    Fin' (score X W Xi i n) := by
  unfold score
  rw [dif_pos h]
  exact fin_sum fun l => fin_mul (fin_sum fun k => fin_mul (hX i k) (hW k l)) (hXi l _)

/-- The word in column `j` of row `i`: the number of the node the descent is at after `j` steps. -/
def word (X : Fin 4096 → Fin 2048 → EReal) (W : Fin 2048 → Fin 2048 → EReal) (Xi : Fin 2048 → Fin 2046 → EReal) (i : Fin 4096) (j : ℕ) :
    BitVec 32 :=
  BitVec.ofNat 32 (2 ^ j - 1 + pos (score X W Xi i) j)

end Cert.Tree

end
-- ==== Proof.KernelIdeal.Descend.lean ====
/-
  The descent in region 1's last points, level by level: the words the body writes are the numbers of the nodes on the path.
-/
module

public import proofs.«01_k».proof.Proof.KernelIdeal.Body1
public import proofs.«01_k».proof.Proof.Tree
public import Idealize.ShloMosaic.Lib.Pointwise

@[expose] public section

set_option maxRecDepth 16384

noncomputable section

namespace Cert.KernelIdeal.Descend

open Idealize.ShloMosaic Idealize.ShloMosaic.TcCoe Idealize.SL.Sem
open Cert.KernelIdeal Cert.KernelIdeal.Gen Cert.Tree

section Row

variable {v : Vec Ideal S1024x2048 .f32} {r : Fin 1024} {g : ℕ → EReal}

/-- Row `r` of the block holds the scores `g`, all finite but for the padding. -/
structure Row (v : Vec Ideal S1024x2048 .f32) (r : Fin 1024) (g : ℕ → EReal) : Prop where
  val : ∀ x : Fin 2048, v (ix2 r x) = g x.val
  fin : ∀ n, n < 2046 → Fin' (g n)

variable (H : Row v r g)
include H

theorem level1 : k1_pay5 (F := Ideal) v (ix2 r 0) = BitVec.ofNat 32 (pos g 1) := by
  pointwise [k1_pay5]
  exact step_pos g H.fin 0 0 (by decide) rfl rfl _ fun x => (H.val ⟨x.val, by omega⟩).trans (congrArg g (Nat.zero_add _).symm)

theorem level2 : k1_pay11 (F := Ideal) (k1_pay5 v) (k1_pay7 (F := Ideal) v) (k1_pay8 (F := Ideal)) k1_pay9 (k1_pay10 (F := Ideal) v) (ix2 r 0) = BitVec.ofNat 32 (pos g 2) := by
  pointwise [k1_pay11, k1_pay7, k1_pay8, k1_pay9, k1_pay10]
  rw [level1 H]
  exact step_pos g H.fin 1 2 (by decide) rfl rfl _ fun x => H.val ⟨2 + x.val, by omega⟩

theorem level3 : k1_pay13 (F := Ideal) v (k1_pay5 (F := Ideal) v) (k1_pay7 (F := Ideal) v) (k1_pay8 (F := Ideal)) k1_pay9 (k1_pay10 (F := Ideal) v) (ix2 r 0) = BitVec.ofNat 32 (pos g 3) := by
  pointwise [k1_pay13]
  rw [level2 H]
  exact step_pos g H.fin 2 6 (by decide) rfl rfl _ fun x => H.val ⟨6 + x.val, by omega⟩

theorem level4 {m : IVec S1024x1 32} (hm : m (ix2 r 0) = BitVec.ofNat 32 (pos g 3)) :
    k1_pay17 (F := Ideal) m (k1_pay15 (F := Ideal) v) (iota .tc S1024x16 32 [1] iota_S1024x16_d1_w32) k1_pay16 (ix2 r 0) = BitVec.ofNat 32 (pos g 4) := by
  pointwise [k1_pay17, k1_pay15, k1_pay16]
  rw [hm]
  exact step_pos g H.fin 3 14 (by decide) rfl rfl _ fun x => H.val ⟨14 + x.val, by omega⟩

theorem level5 {m : IVec S1024x1 32} (hm : m (ix2 r 0) = BitVec.ofNat 32 (pos g 3)) :
    k1_pay20 (k1_pay17 m (k1_pay15 (F := Ideal) v) (iota .tc S1024x16 32 [1] iota_S1024x16_d1_w32) k1_pay16)
      (k1_pay19 (F := Ideal) v m (k1_pay15 (F := Ideal) v) (iota .tc S1024x16 32 [1] iota_S1024x16_d1_w32) k1_pay16) (ix2 r 0) = BitVec.ofNat 32 (pos g 5) := by
  pointwise [k1_pay20, k1_pay19]
  rw [level4 H hm]
  exact step_pos g H.fin 4 30 (by decide) rfl rfl _ fun x => H.val ⟨30 + x.val, by omega⟩

theorem level6 {m b : IVec S1024x1 32} (hm : k1_pay20 m b (ix2 r 0) = BitVec.ofNat 32 (pos g 5)) :
    k1_pay22 (F := Ideal) v m b (ix2 r 0) = BitVec.ofNat 32 (pos g 6) := by
  pointwise [k1_pay22]
  rw [hm]
  exact step_pos g H.fin 5 62 (by decide) rfl rfl _ fun x => H.val ⟨62 + x.val, by omega⟩

theorem level7 {m b : IVec S1024x1 32} (hm : k1_pay20 m b (ix2 r 0) = BitVec.ofNat 32 (pos g 5)) :
    k1_pay28 (F := Ideal) (k1_pay22 v m b) (k1_pay24 (F := Ideal) v) (k1_pay25 (F := Ideal)) k1_pay26 (k1_pay27 (F := Ideal) v m b) (ix2 r 0) = BitVec.ofNat 32 (pos g 7) := by
  pointwise [k1_pay28, k1_pay24, k1_pay25, k1_pay26, k1_pay27]
  rw [level6 H hm]
  exact step_pos g H.fin 6 126 (by decide) rfl rfl _ fun x => H.val ⟨126 + x.val, by omega⟩

theorem level8 {m b : IVec S1024x1 32} (hm : k1_pay20 m b (ix2 r 0) = BitVec.ofNat 32 (pos g 5)) :
    k1_pay30 (F := Ideal) v (k1_pay22 (F := Ideal) v m b) (k1_pay24 (F := Ideal) v) (k1_pay25 (F := Ideal)) k1_pay26 (k1_pay27 (F := Ideal) v m b) (ix2 r 0) = BitVec.ofNat 32 (pos g 8) := by
  pointwise [k1_pay30]
  rw [level7 H hm]
  exact step_pos g H.fin 7 254 (by decide) rfl rfl _ fun x => H.val ⟨254 + x.val, by omega⟩

theorem level9 {m : IVec S1024x1 32} (hm : m (ix2 r 0) = BitVec.ofNat 32 (pos g 8)) :
    k1_pay34 (F := Ideal) m (k1_pay32 (F := Ideal) v) (iota .tc S1024x512 32 [1] iota_S1024x512_d1_w32) k1_pay33 (ix2 r 0) = BitVec.ofNat 32 (pos g 9) := by
  pointwise [k1_pay34, k1_pay32, k1_pay33]
  rw [hm]
  exact step_pos g H.fin 8 510 (by decide) rfl rfl _ fun x => H.val ⟨510 + x.val, by omega⟩

theorem level10 {m : IVec S1024x1 32} (hm : m (ix2 r 0) = BitVec.ofNat 32 (pos g 8)) :
    IntOp.addi (IntOp.muli 2#32 (k1_pay34 (F := Ideal) m (k1_pay32 (F := Ideal) v) (iota .tc S1024x512 32 [1] iota_S1024x512_d1_w32) k1_pay33 (ix2 r 0)))
      (k1_pay36 (F := Ideal) v m (k1_pay32 (F := Ideal) v) (iota .tc S1024x512 32 [1] iota_S1024x512_d1_w32) k1_pay33 (ix2 r 0)) = BitVec.ofNat 32 (pos g 10) := by
  pointwise [k1_pay36]
  rw [level9 H hm]
  exact step_pos g H.fin 9 1022 (by decide) rfl rfl _ fun x => H.val ⟨1022 + x.val, by omega⟩

omit H in
/-- Eleven columns side by side, each with its level's number, and the last one's sum still to be taken. -/
theorem columns {v18 v44 v70 v96 v122 v148 v174 v200 v226 v252 v250 v273 : IVec S1024x1 32}
    (h0 : v18 (ix2 r 0) = BitVec.ofNat 32 (2 ^ 0 - 1 + pos g 0))
    (h1 : v44 (ix2 r 0) = BitVec.ofNat 32 (2 ^ 1 - 1 + pos g 1))
    (h2 : v70 (ix2 r 0) = BitVec.ofNat 32 (2 ^ 2 - 1 + pos g 2))
    (h3 : v96 (ix2 r 0) = BitVec.ofNat 32 (2 ^ 3 - 1 + pos g 3))
    (h4 : v122 (ix2 r 0) = BitVec.ofNat 32 (2 ^ 4 - 1 + pos g 4))
    (h5 : v148 (ix2 r 0) = BitVec.ofNat 32 (2 ^ 5 - 1 + pos g 5))
    (h6 : v174 (ix2 r 0) = BitVec.ofNat 32 (2 ^ 6 - 1 + pos g 6))
    (h7 : v200 (ix2 r 0) = BitVec.ofNat 32 (2 ^ 7 - 1 + pos g 7))
    (h8 : v226 (ix2 r 0) = BitVec.ofNat 32 (2 ^ 8 - 1 + pos g 8))
    (h9 : v252 (ix2 r 0) = BitVec.ofNat 32 (2 ^ 9 - 1 + pos g 9))
    (h10 : IntOp.addi (IntOp.muli 2#32 (v250 (ix2 r 0))) (v273 (ix2 r 0)) = BitVec.ofNat 32 (pos g 10)) (j : Fin 11) :
    k1_pay3 v18 v44 v70 v96 v122 v148 v174 v200 v226 v250 v252 v273 (ix2 r j) = BitVec.ofNat 32 (2 ^ j.val - 1 + pos g j.val) := by
  pointwise [k1_pay3]
  fin_vals j with hj
  all_goals simp only [hj, Nat.reduceSub, Nat.reduceLT, ↓reduceDIte]
  · exact h0
  · exact h1
  · exact h2
  · exact h3
  · exact h4
  · exact h5
  · exact h6
  · exact h7
  · exact h8
  · exact h9
  · exact (congrArg (IntOp.addi 1023#32) h10).trans (add_word 1023 (pos g 10))

/-- The body's words in row `r`: the number of the node at each level. -/
theorem descended_apply (j : Fin 11) : R1.descended v (ix2 r j) = BitVec.ofNat 32 (2 ^ j.val - 1 + pos g j.val) := by
  have h3 := level3 H
  have h5 := level5 H h3
  have h8 := level8 H h5
  refine columns ?_ ?_ ?_ ?_ ?_ ?_ ?_ ?_ ?_ ?_ (level10 H h8) j
  · pointwise [k1_pay4]
    rfl
  · pointwise [k1_pay6]
    rw [level1 H]; exact add_word 1 _
  · pointwise [k1_pay12]
    rw [level2 H]; exact add_word 3 _
  · pointwise [k1_pay14]
    rw [h3]; exact add_word 7 _
  · pointwise [k1_pay18]
    rw [level4 H h3]; exact add_word 15 _
  · pointwise [k1_pay21]
    rw [h5]; exact add_word 31 _
  · pointwise [k1_pay23]
    rw [level6 H h5]; exact add_word 63 _
  · pointwise [k1_pay29]
    rw [level7 H h5]; exact add_word 127 _
  · pointwise [k1_pay31]
    rw [h8]; exact add_word 255 _
  · pointwise [k1_pay35]
    rw [level9 H h8]; exact add_word 511 _

end Row

end Cert.KernelIdeal.Descend

end
-- ==== Proof.KernelIdeal.Value.lean ====
/-
  The kernel's result array at the ideal instance: row `i` is the path of the descent on row `i`'s scores.
-/
module

public import proofs.«01_k».proof.Proof.KernelIdeal.Value0
public import proofs.«01_k».proof.Proof.KernelIdeal.Value1
public import proofs.«01_k».proof.Proof.KernelIdeal.Descend
public import proofs.«01_k».proof.Proof.KernelIdeal.Run

@[expose] public section

set_option maxRecDepth 16384

noncomputable section

namespace Cert.KernelIdeal

open Cert.KernelIdeal Cert.KernelIdeal.Gen Cert.Tree
open Idealize.ShloMosaic Idealize.ShloMosaic.TcCoe Idealize.SL.Sem
open Idealize.ShloMosaic.Pipeline (Dat)

/-- Region 0's output array is the product of its operands. -/
theorem R0.final (W : Dev nD → Valuation τ sig (Elt Ideal)) (c : Dev nD) :
    (R0.dat W c).arrAt 2 cfg0.N = (fun y : S4096x2048.Idx => R0.prod W c (y 0) (y 1)) := by
  refine (R0.dat W c).arrAt_eq_of_covers 2 _ (by decide +kernel) fun t hf y => ?_
  blk_simp
  have hf' := (flush0_2 t).mp hf
  rw [R0.after_2]
  refine (R0.scr_flush W c t hf' y).trans ?_
  exact congrArg₂ (R0.prod W c) (Fin.ext (by blk_simp [R0.idx t])) (Fin.ext (by blk_simp [R0.idx t]))

/-- The words of the descents on the rows' scores `g`. -/
def path (g : Fin 4096 → ℕ → EReal) (i : Fin 4096) (j : Fin 11) : BitVec 32 := BitVec.ofNat 32 (2 ^ j.val - 1 + pos (g i) j.val)

/-- Region 1's output array, when the product's first 2046 columns are finite: the path of the descent on each row. -/
theorem R1.final (W : Dev nD → Valuation τ sig (Elt Ideal)) (c : Dev nD) (g : Fin 4096 → ℕ → EReal)
    (hg : ∀ i (x : Fin 2048), R1.prod W c i x = g i x.val) (hfin : ∀ i n, n < 2046 → Fin' (g i n)) :
    (R1.dat W c).arrAt 2 cfg1.N = (fun y : S4096x11.Idx => path g (y 0) (y 1)) := by
  refine (R1.dat W c).arrAt_eq_of_covers 2 _ (by decide +kernel) fun t hf y => ?_
  blk_simp
  have hf' := (flush1_2 t).mp hf
  rw [R1.after_2]
  have hy : R1.descended (R1.scr W c t.val t.isLt) y = R1.descended (R1.scr W c t.val t.isLt) (ix2 (y 0) (y 1)) :=
    congrArg _ (by idx_vars y)
  refine hy.trans ((Descend.descended_apply (g := g ⟨t.val / 4 * 1024 + (y 0).val, by have := t.isLt; have := (y 0).isLt; idx_bounds; omega⟩)
    ⟨fun x => (R1.scr_flush W c t hf' (ix2 (y 0) x)).trans (hg _ x), hfin _⟩ (y 1)).trans ?_)
  exact congrArg₂ (path g) (Fin.ext (by blk_simp [R1.idx t])) (Fin.ext (by blk_simp [R1.idx t]))

variable (m : (ℓ : Loc nD τ sig) → Buf (Elt Ideal) ℓ) (c : Dev nD)

/-- The arguments. -/
abbrev X (i : Fin 4096) (k : Fin 2048) : EReal := (m ((c : Thread nD τ).loc main_arg0) : FVec Ideal S4096x2048 .f32) (ix2 i k)
abbrev Wt (k : Fin 2048) (l : Fin 2048) : EReal := (m ((c : Thread nD τ).loc main_arg1) : FVec Ideal S2048x2048 .f32) (ix2 k l)
abbrev Xi (l : Fin 2048) (n : Fin 2046) : EReal := (m ((c : Thread nD τ).loc main_arg2) : FVec Ideal S2048x2046 .f32) (ix2 l n)

theorem lhs0 : R0.lhs (V1 m) c = (m ((c : Thread nD τ).loc main_arg0) : FVec Ideal S4096x2048 .f32) := by
  rfl

theorem rhs0 : R0.rhs (V1 m) c = (m ((c : Thread nD τ).loc main_arg1) : FVec Ideal S2048x2048 .f32) := by
  rfl

theorem lhs1 : R1.lhs (Launch.W3 m) c = (R0.dat (V1 m) c).arrAt 2 cfg0.N :=
  (StableHlo.after_of_writes_sub hostOps1 _ hostOps1_writes (by decide)).trans (Launch.W2_f m c)

theorem W2_arg2 : Launch.W2 m c (Proc.devRef .tc main_arg2) = m ((c : Thread nD τ).loc main_arg2) :=
  (Launch.W2_off m c _ (by decide)).trans (V1_of m c main_arg2 (by decide))

/-- A matrix padded on the right reads as itself in its own columns. -/
theorem pad_left (v : FVec Ideal S2048x2046 .f32) (z : FVec Ideal S_ .f32) (l : Fin 2048) (x : Fin 2048) (h : x.val < 2046) :
    pad S2048x2048 ![0, 0] ![0, 2] ![0, 0] v z pads_S2048x2046_S2048x2048_000_020 h_S_ (ix2 l x) = v (ix2 l ⟨x.val, h⟩) := by
  pointwise
  exact dif_pos h

/-- The padded operand's first 2046 columns are `x_i`. -/
theorem rhs1 (l : Fin 2048) (x : Fin 2048) (h : x.val < 2046) : R1.rhs (Launch.W3 m) c (ix2 l x) = Xi m c l ⟨x.val, h⟩ := by
  have e : R1.rhs (Launch.W3 m) c = pad S2048x2048 ![0, 0] ![0, 2] ![0, 0] (Launch.W2 m c (Proc.devRef .tc main_arg2) : FVec Ideal S2048x2046 .f32)
      (sitofp (F := Ideal) .f32 (constantI S_ 32 0#32)) pads_S2048x2046_S2048x2048_000_020 h_S_ := rfl
  rw [e, W2_arg2]
  exact pad_left _ _ l x h

/-- The products the second region descends on are the scores. -/
theorem scores (i : Fin 4096) (x : Fin 2048) (h : x.val < 2046) : R1.prod (Launch.W3 m) c i x = score (X m c) (Wt m c) (Xi m c) i x.val := by
  unfold score
  rw [dif_pos h]
  unfold R1.prod feat
  refine Finset.sum_congr rfl fun l _ => ?_
  rw [rhs1 m c l x h, lhs1, R0.final]
  rfl

/-- The result array after the run, of finite arguments. -/
theorem result (hX : ∀ i k, Fin' (X m c i k)) (hW : ∀ k l, Fin' (Wt m c k l)) (hXi : ∀ l n, Fin' (Xi m c l n)) :
    (R1.dat (Launch.W3 m) c).arrAt 2 cfg1.N = (fun y : S4096x11.Idx => word (X m c) (Wt m c) (Xi m c) (y 0) (y 1).val) := by
  have hs := fun i n (hn : n < 2046) => score_fin hX hW hXi i n hn
  refine (R1.final (Launch.W3 m) c (fun i n => if h : n < 2048 then R1.prod (Launch.W3 m) c i ⟨n, h⟩ else 0)
    (fun i x => by rw [dif_pos x.isLt]) fun i n hn => ?_).trans ?_
  · rw [dif_pos (by omega), scores m c i _ hn]
    exact hs i n hn
  · funext y
    unfold path word
    rw [pos_congr (g' := score (X m c) (Wt m c) (Xi m c) (y 0)) (fun n hn => (dif_pos (by omega)).trans (scores m c _ _ hn)) _
      (by have := (y 1).isLt; idx_bounds; omega)]

end Cert.KernelIdeal

end
-- ==== Proof.RefFrame.lean ====
/-
  The reference's frame: its loop's run leaves the three arguments as launched, and it declares no semaphore.
-/
module

public import proofs.«01_k».proof.Proof.Gen.ReferenceIdeal.Run
public import Idealize.ShloMosaic.Lib.Quiescent
public import Idealize.ShloMosaic.Lib.StableHlo.RunHlo

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- A buffer none of the body's stretches and not the condition writes is the same before every condition. -/
theorem atK_off (c : Dev nD) (r : Ref sig .tc) (hc : r ∉ condOps_W)
    (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) (h6 : r ∉ while0Ops0_6_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc,
      atK_off c r hc h0 h1 h2 h3 h4 h5 h6 k]
    rfl

/-- No operation writes an argument. -/
theorem final_arg (c : Dev nD) (r : Ref sig .tc) (h : r = main_arg0 ∨ r = main_arg1 ∨ r = main_arg2) :
    finalContents condOps preI bodyI postI 10 m c (Proc.devRef .tc r) = m ((c : Thread nD τ).loc r) := by
  have e : finalContents condOps preI bodyI postI 10 m c = after hostOps0_1 (after condOps (atK m 10 c)) := rfl
  rw [e]
  rcases h with rfl | rfl | rfl
  all_goals
    rw [after_of_writes_sub hostOps0_1 _ hostOps0_1_writes (by decide +kernel), after_of_writes_sub condOps _ condOps_writes (by decide +kernel),
      atK_off m c _ (by decide +kernel) (by decide +kernel) (by decide +kernel) (by decide +kernel) (by decide +kernel) (by decide +kernel)
        (by decide +kernel) (by decide +kernel)]
    exact after_of_writes_sub hostOps0 _ hostOps0_writes (by decide +kernel)

/-- The run with the arguments and the counters, the result left at the fold. -/
theorem run_args : θ_run (defs (F := F)) (onTc (τ := τ) (main (F := F))) ⟨m, fun _ => 0, ρ⟩ (fun r => (∀ c : Dev nD,
      r.2.mem ((c : Thread nD τ).loc main_v9) = finalContents condOps preI bodyI postI 10 m c (Proc.devRef .tc main_v9)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  θ_run_mono (run_fold m ρ) fun r h =>
    ⟨fun c => ⟨h c main_v9 rfl, (h c main_arg0 rfl).trans (final_arg m c _ (.inl rfl)), (h c main_arg1 rfl).trans (final_arg m c _ (.inr (.inl rfl))),
      (h c main_arg2 rfl).trans (final_arg m c _ (.inr (.inr rfl)))⟩, sem_eq_zero_of_no_sems rfl r.2⟩

end Cert.ReferenceIdeal.Value

end
-- ==== Proof.RefOps.lean ====
/-
  The reference's step, operation group by operation group, as functions of the arrays they read, and their entries.
-/
module

public import proofs.«01_k».proof.Proof.Gen.ReferenceIdeal
public import proofs.«01_k».proof.Proof.Tree
public import Idealize.ShloMosaic.Lib.Pointwise
public import Idealize.ShloMosaic.Lib.ValueIdxCore
public import Idealize.ShloMosaic.Lib.Pipeline.ValueKit

@[expose] public section

set_option maxRecDepth 16384

noncomputable section

namespace Cert.ReferenceIdeal.Ops

open Cert.ReferenceIdeal Cert.ReferenceIdeal.Gen Cert.Tree
open Idealize.ShloMosaic Idealize.ShloMosaic.TcCoe

variable {F : FTy → Type} [FloatOps F]

/-- The columns of `x_i` a step asks for: `2 c + offs - 1`. -/
def cols (c : IVec S4096 32) (offs : IVec S2 32) : IVec S4096x2 32 :=
  subi (addi
      (broadcastInDim S4096x2 ![0, 1] bcast_S4096x1_S4096x2_0_1
        (broadcastInDim S4096x1 ![0] bcast_S4096_S4096x1_0 (muli c (broadcastInDim S4096 ![] bcast_S_S4096 (constantI S_ 32 2#32)))))
      (broadcastInDim S4096x2 ![0, 1] bcast_S1x2_S4096x2_0_1 (broadcastInDim S1x2 ![1] bcast_S2_S1x2_1 offs)))
    (broadcastInDim S4096x2 ![] bcast_S_S4096x2 (constantI S_ 32 1#32))

/-- The columns with a negative one counted from the end, as the gather takes them. -/
def wrapped (k : IVec S4096x2 32) : IVec S4096x2x1 32 :=
  broadcastInDim S4096x2x1 ![0, 1] bcast_S4096x2_S4096x2x1_0_1
    (select (cmpi .slt k (broadcastInDim S4096x2 ![] bcast_S_S4096x2 (constantI S_ 32 0#32)))
      (addi k (broadcastInDim S4096x2 ![] bcast_S_S4096x2 (constantI S_ 32 2046#32))) k)

/-- Whether the column is in the array. -/
def inside (k : IVec S4096x2x1 32) : IVec S4096x2 1 :=
  Host.reduce IntOp.andi
    (andi (cmpi .sge k (broadcastInDim S4096x2x1 ![] bcast_S_S4096x2x1 (constantI S_ 32 0#32)))
      (cmpi .sle k (broadcastInDim S4096x2x1 ![0, 1, 2] bcast_S1x1x1_S4096x2x1_0_1_2
        (broadcastInDim S1x1x1 ![2] bcast_S1_S1x1x1_2 (constantI S1 32 2045#32)))))
    (constantI S_ 1 1#1) reducesTo_S4096x2x1_S4096x2_d2 h_S_

/-- The columns taken, a NaN where there is none. -/
def taken (x : FVec F S2048x2046 .f32) (k : IVec S4096x2x1 32) (b : IVec S4096x2 1) : FVec F S4096x2048x2 .f32 :=
  select (broadcastInDim S4096x2048x2 ![0, 2] bcast_S4096x2_S4096x2048x2_0_2 b)
    (Host.gather gather_S2048x2046_S4096x2x1_S4096x2048x2_1_1_n_n_1_2_20481 x k)
    (broadcastInDim S4096x2048x2 ![] bcast_S_S4096x2048x2 (constant S_ .f32 0x7FC00000#32))

/-- The two children's scores. -/
def gains (t : FVec F S4096x2048x2 .f32) (f : FVec F S4096x2048 .f32) : FVec F S4096x2 .f32 :=
  Host.dotGeneral dot_S4096x2x2048_S4096x2048_S4096x2_2_1_1_n_0_0 none
    (transpose S4096x2x2048 [0, 2, 1] t transposes_S4096x2048x2_S4096x2x2048_0_2_1) f

/-- Which of the two is larger. -/
def best (g : FVec F S4096x2 .f32) : IVec S4096 32 := fun j =>
  (Host.argReduce reducer_argmax_f32_i32 g (iotaInDim S4096x2 32 1) (constant S_ .f32 0xFF800000#32) (constantI S_ 32 0#32)
    reducesTo_S4096x2_S4096_d1 h_S_ j).2

/-- The next node: `2 c + 1 + best`. -/
def next (c : IVec S4096 32) (b : IVec S4096 32) : IVec S4096 32 :=
  addi (addi (muli c (broadcastInDim S4096 ![] bcast_S_S4096 (constantI S_ 32 2#32)))
    (broadcastInDim S4096 ![] bcast_S_S4096 (constantI S_ 32 1#32))) b

/-- The paths so far with row `k` set. -/
def record (p : IVec S10x4096 32) (c : IVec S4096 32) (k : IVec S_ 32) : IVec S10x4096 32 :=
  Host.dynamicUpdateSlice p (broadcastInDim S1x4096 ![1] bcast_S4096_S1x4096_1 c)
    (fun a => ((![k, constantI S_ 32 0#32] : Fin 2 → IVec S_ 32) a (Shape.Idx.first h_S_)).toInt) updateFits_S10x4096_S1x4096

/-! ## Their entries -/

theorem toInt_word (n : ℕ) (hn : n < 2 ^ 31) : (BitVec.ofNat 32 n).toInt = n := by
  rw [BitVec.toInt_eq_toNat_of_lt (by simp; omega)]
  simp
  omega

theorem cols_apply (c : IVec S4096 32) (offs : IVec S2 32) (i : Fin 4096) (s : Fin 2) :
    cols c offs (ix2 i s) = IntOp.subi (IntOp.addi (IntOp.muli (c (ix1 i)) 2#32) (offs (ix1 s))) 1#32 := by
  pointwise [cols]

theorem wrapped_apply (k : IVec S4096x2 32) (i : Fin 4096) (s : Fin 2) (n : ℕ) (hn : n < 2046) (hk : k (ix2 i s) = BitVec.ofNat 32 n) :
    wrapped k (ix3 i s 0) = BitVec.ofNat 32 n := by
  pointwise [wrapped]
  rw [hk, show IntOp.cmpi CmpIPredicate.slt (BitVec.ofNat 32 n) 0#32 = 0#1 by
    simp only [IntOp.cmpi, BitVec.slt, toInt_word n (by omega)]
    rw [decide_eq_false (by simp)]; rfl]
  rfl

theorem inside_apply (k : IVec S4096x2x1 32) (i : Fin 4096) (s : Fin 2) (n : ℕ) (hn : n < 2046) (hk : k (ix3 i s 0) = BitVec.ofNat 32 n) :
    inside k (ix2 i s) = 1#1 := by
  pointwise [inside]
  rw [Finset.fold_congr (g := fun _ => 1#1) (fun x _ => ?_)]
  · rfl
  · have e : x = 0 := Subsingleton.elim _ _
    rw [e, hk]
    rw [show IntOp.cmpi CmpIPredicate.sge (BitVec.ofNat 32 n) 0#32 = 1#1 by
        simp [IntOp.cmpi, BitVec.sle, toInt_word n (by omega)],
      show IntOp.cmpi CmpIPredicate.sle (BitVec.ofNat 32 n) 2045#32 = 1#1 by
        simp only [IntOp.cmpi, BitVec.sle, toInt_word n (by omega), toInt_word 2045 (by omega)]
        rw [decide_eq_true (by omega)]; rfl]
    rfl

theorem taken_apply (x : FVec Ideal S2048x2046 .f32) (k : IVec S4096x2x1 32) (b : IVec S4096x2 1) (i : Fin 4096) (l : Fin 2048) (s : Fin 2)
    (n : ℕ) (hn : n < 2046) (hk : k (ix3 i s 0) = BitVec.ofNat 32 n) (hb : b (ix2 i s) = 1#1) :
    taken x k b (ix3 i l s) = x (ix2 l ⟨n, hn⟩) := by
  pointwise [taken]
  rw [hb]
  refine Eq.trans (b := Host.gather gather_S2048x2046_S4096x2x1_S4096x2048x2_1_1_n_n_1_2_20481 x k (ix3 i l s)) rfl ?_
  unfold Host.gather
  congr 1
  funext a
  refine Fin.ext ?_
  set d := gather_S2048x2046_S4096x2x1_S4096x2048x2_1_1_n_n_1_2_20481 with hd
  show d.start (ix3 i l s) k a + d.batchCoord (ix3 i l s) a + d.offCoord (ix3 i l s) a = _
  rw [GatherDims.batchCoord_eq_zero _ _ _ List.not_mem_nil]
  fin_cases a
  · have h1 : d.start (ix3 i l s) k 0 = 0 := by
      unfold GatherDims.start; exact dif_neg (by decide)
    have h2 : d.offCoord (ix3 i l s) 0 = l.val := by
      unfold GatherDims.offCoord; exact (dif_pos (by decide)).trans rfl
    show d.start (ix3 i l s) k 0 + 0 + d.offCoord (ix3 i l s) 0 = l.val
    rw [h1, h2]; omega
  · have h1 : d.start (ix3 i l s) k 1 = n := by
      unfold GatherDims.start
      refine (dif_pos (by decide)).trans ?_
      have e : ∀ q, d.siIdx (ix3 i l s) q = ix3 i s 0 := by
        intro q; funext b; fin_cases b
        · rfl
        · rfl
        · exact Subsingleton.elim (α := Fin 1) _ _
      rw [e, hk, toInt_word n (by omega)]
      exact min_eq_left (by show n ≤ 2046 - 1; omega)
    have h2 : d.offCoord (ix3 i l s) 1 = 0 := GatherDims.offCoord_eq_zero _ _ _ (by decide)
    show d.start (ix3 i l s) k 1 + 0 + d.offCoord (ix3 i l s) 1 = n
    rw [h1, h2]; rfl

theorem gains_apply (t : FVec Ideal S4096x2048x2 .f32) (f : FVec Ideal S4096x2048 .f32) (i : Fin 4096) (s : Fin 2) :
    gains t f (ix2 i s) = ∑ l : Fin 2048, t (ix3 i l s) * f (ix2 i l) := by
  pointwise [gains]

theorem next_apply (c b : IVec S4096 32) (i : Fin 4096) :
    next c b (ix1 i) = IntOp.addi (IntOp.addi (IntOp.muli (c (ix1 i)) 2#32) 1#32) (b (ix1 i)) := by
  pointwise [next]

theorem record_apply (p : IVec S10x4096 32) (c : IVec S4096 32) (k : IVec S_ 32) (n : ℕ) (hn : n < 10) (hk : k (Shape.Idx.first h_S_) = BitVec.ofNat 32 n) (j : Fin 10) (i : Fin 4096) :
    record p c k (ix2 j i) = if j.val = n then c (ix1 i) else p (ix2 j i) := by
  pointwise [record]
  have h0 : Host.clampedStart S10x4096 S1x4096 rfl
      (fun a => ((![k, constantI S_ 32 0#32] : Fin 2 → IVec S_ 32) a (Shape.Idx.first h_S_)).toInt) 0 = n :=
    Host.clampedStart_of_le (s := S10x4096) (t := S1x4096) rfl _ 0 n ((congrArg BitVec.toInt hk).trans (toInt_word n (by omega)))
      (show n + 1 ≤ 10 by omega)
  have h1 : Host.clampedStart S10x4096 S1x4096 rfl
      (fun a => ((![k, constantI S_ 32 0#32] : Fin 2 → IVec S_ 32) a (Shape.Idx.first h_S_)).toInt) 1 = 0 :=
    Nat.le_zero.mp (Nat.le_of_add_le_add_right (b := 4096)
      ((Host.clampedStart_le (s := S10x4096) (t := S1x4096) rfl _ 1 (le_refl _)).trans_eq (Nat.zero_add 4096).symm))
  by_cases hj : j.val = n
  · have hlt : j.val < _ + 1 := (show j.val < n + 1 by omega).trans_eq (congrArg (· + 1) h0).symm
    refine Eq.trans (dif_pos ⟨⟨h0.le.trans hj.ge, hlt⟩, h1.le.trans (Nat.zero_le _)⟩) ?_
    rw [if_pos hj]
    refine congrArg c (congrArg ix1 (Fin.ext ?_))
    exact (congrArg (i.val - ·) h1).trans (Nat.sub_zero _)
  · refine (dif_neg ?_).trans (if_neg hj).symm
    rintro ⟨⟨ha, hb⟩, -⟩
    have hb' := hb.trans_eq (congrArg (· + 1) h0)
    have ha' := h0.ge.trans ha
    exact hj (by omega)

/-- A list without repeats whose members are two things lists them in one of the two orders. -/
theorem two_members {α : Type} (l : List α) (hl : l.Nodup) (a b : α) (hab : a ≠ b) (hm : ∀ x, x ∈ l ↔ x = a ∨ x = b) :
    l = [a, b] ∨ l = [b, a] := by
  have hp : l.Perm [a, b] := (List.perm_ext_iff_of_nodup hl (by simp [hab])).mpr (by simpa using hm)
  match l, hp.length_eq with
  | [x, y], _ =>
    have hx := (hm x).mp (by simp)
    have hy := (hm y).mp (by simp)
    have hxy : x ≠ y := by simpa using hl
    rcases hx with rfl | rfl <;> rcases hy with rfl | rfl <;> simp_all

theorem fiber (g : FVec Ideal S4096x2 .f32) (y : IVec S4096x2 32) (i : Fin 4096) :
    Host.argReduceFiber g y reducesTo_S4096x2_S4096_d1 (ix1 i) = [(g (ix2 i 0), y (ix2 i 0)), (g (ix2 i 1), y (ix2 i 1))]
      ∨ Host.argReduceFiber g y reducesTo_S4096x2_S4096_d1 (ix1 i) = [(g (ix2 i 1), y (ix2 i 1)), (g (ix2 i 0), y (ix2 i 0))] := by
  have key := two_members
    ((List.finRange S4096x2.numel).filter fun n => reducesTo_S4096x2_S4096_d1.drop (S4096x2.rowMajor.symm n) = ix1 i)
    ((List.nodup_finRange _).filter _) (S4096x2.rowMajor (ix2 i 0)) (S4096x2.rowMajor (ix2 i 1)) ?_ ?_
  · unfold Host.argReduceFiber
    rcases key with e | e
    · left; rw [e]; simp
    · right; rw [e]; simp
  · intro e
    have := congrFun (S4096x2.rowMajor.injective e) 1
    exact absurd (show (0 : Fin 2) = 1 from this) (by decide)
  · intro n
    obtain ⟨z, rfl⟩ := S4096x2.rowMajor.surjective n
    idx_vars z
    have hd : reducesTo_S4096x2_S4096_d1.drop (ix2 z0 z1) = ix1 i ↔ z0 = i := by
      constructor
      · intro e
        exact Fin.ext (congrArg (fun q : S4096.Idx => (q 0).val) e)
      · rintro rfl
        funext a
        have ha : a = 0 := Subsingleton.elim _ _
        subst ha
        rfl
    simp only [List.mem_filter, List.mem_finRange, true_and, Equiv.symm_apply_apply, decide_eq_true_eq,
      EmbeddingLike.apply_eq_iff_eq]
    rw [hd]
    constructor
    · rintro rfl
      fin_cases z1
      · exact Or.inl rfl
      · exact Or.inr rfl
    · rintro (e | e)
      · exact congrFun e 0
      · exact congrFun e 0

/-- The comparison of two (value, index) pairs on the extended reals: the larger value, the smaller index of a tie. -/
theorem reducer_eq (a b : EReal) (m n : BitVec 32) : reducer_argmax_f32_i32 (F := Ideal) ((a, m) : EReal × BitVec 32) ((b, n) : EReal × BitVec 32) =
    ((if b < a then a else b, if b < a ∨ (a = b ∧ m.slt n = true) then m else n) : EReal × BitVec 32) := by
  unfold reducer_argmax_f32_i32
  simp only [Ideal.cmpf_def, Ideal.cmp, IntOp.cmpi, IntOp.ori, IntOp.andi, Scalar.select]
  by_cases h : b < a <;> by_cases h' : a = b <;> by_cases h'' : m.slt n <;> simp [h, h', h'']

/-- Against the initial pair (`-∞`) any larger value is kept. -/
theorem reducer_init (a : EReal) (m n : BitVec 32) (ha : a ≠ ⊥) :
    reducer_argmax_f32_i32 (F := Ideal) ((⊥, m) : EReal × BitVec 32) ((a, n) : EReal × BitVec 32) = ((a, n) : EReal × BitVec 32) := by
  rw [reducer_eq, if_neg not_lt_bot, if_neg (by rintro (h | ⟨h, -⟩); exacts [not_lt_bot h, ha h.symm])]

theorem best_apply (g : FVec Ideal S4096x2 .f32) (i : Fin 4096) (h0 : g (ix2 i 0) ≠ (⊥ : EReal)) (h1 : g (ix2 i 1) ≠ (⊥ : EReal)) :
    best g (ix1 i) = if (g (ix2 i 0) : EReal) < g (ix2 i 1) then 1#32 else 0#32 := by
  have hinit : ((constant S_ .f32 0xFF800000#32 : FVec Ideal S_ .f32) (Shape.Idx.first h_S_) : EReal) = ⊥ := by
    show Ideal.ofBits .f32 0xFF800000#32 = ⊥
    simp [Ideal.ofBits, Ideal.ieee]
  have y0 : iotaInDim S4096x2 32 1 (ix2 i 0) = 0#32 := rfl
  have y1 : iotaInDim S4096x2 32 1 (ix2 i 1) = 1#32 := rfl
  unfold best
  rw [Ideal.argReduce_eq_reduce2, Host.reduce2_eq_foldl_fiber]
  rw [hinit]
  rcases fiber g (iotaInDim S4096x2 32 1) i with e | e
  · rw [e, y0, y1]
    simp only [List.foldl]
    rw [reducer_init _ _ _ h0, reducer_eq]
    rcases lt_trichotomy (g (ix2 i 0) : EReal) (g (ix2 i 1)) with h | h | h
    · simp [h, h.not_gt, h.ne]
    · simp [h]
    · simp [h, h.not_gt, h.ne]
  · rw [e, y0, y1]
    simp only [List.foldl]
    rw [reducer_init _ _ _ h1, reducer_eq]
    rcases lt_trichotomy (g (ix2 i 0) : EReal) (g (ix2 i 1)) with h | h | h
    · simp [h]
    · simp [h]
    · simp [h, h.not_gt, h.ne]

/-! ## One step -/

/-- The columns a step takes. -/
def stepCols (c : IVec S4096 32) (offs : IVec S2 32) : IVec S4096x2x1 32 := wrapped (cols c offs)

/-- The two children's scores a step compares. -/
def stepGains (c : IVec S4096 32) (offs : IVec S2 32) (x : FVec F S2048x2046 .f32) (f : FVec F S4096x2048 .f32) : FVec F S4096x2 .f32 :=
  gains (taken x (stepCols c offs) (inside (stepCols c offs))) f

/-- The node a step goes to. -/
def step (c : IVec S4096 32) (offs : IVec S2 32) (x : FVec F S2048x2046 .f32) (f : FVec F S4096x2048 .f32) : IVec S4096 32 :=
  next c (best (stepGains c offs x f))

theorem col_word (N s : ℕ) : IntOp.subi (IntOp.addi (IntOp.muli (BitVec.ofNat 32 N) 2#32) (BitVec.ofNat 32 (1 + s))) 1#32 = BitVec.ofNat 32 (2 * N + s) := by
  show BitVec.ofNat 32 N * BitVec.ofNat 32 2 + BitVec.ofNat 32 (1 + s) - BitVec.ofNat 32 1 = _
  rw [← BitVec.ofNat_mul, ← BitVec.ofNat_add, show N * 2 + (1 + s) = 2 * N + s + 1 by omega, BitVec.ofNat_add (2 * N + s) 1,
    BitVec.add_sub_cancel]

theorem next_word (N b : ℕ) : IntOp.addi (IntOp.addi (IntOp.muli (BitVec.ofNat 32 N) 2#32) 1#32) (BitVec.ofNat 32 b) = BitVec.ofNat 32 (2 * N + 1 + b) := by
  show BitVec.ofNat 32 N * BitVec.ofNat 32 2 + BitVec.ofNat 32 1 + BitVec.ofNat 32 b = _
  rw [← BitVec.ofNat_mul, ← BitVec.ofNat_add, ← BitVec.ofNat_add, Nat.mul_comm N 2]

variable {X : Fin 4096 → Fin 2048 → EReal} {W : Fin 2048 → Fin 2048 → EReal} {Xi : Fin 2048 → Fin 2046 → EReal}

theorem stepGains_apply (c : IVec S4096 32) (offs : IVec S2 32) (x : FVec Ideal S2048x2046 .f32) (f : FVec Ideal S4096x2048 .f32)
    (hoffs : ∀ s : Fin 2, offs (ix1 s) = BitVec.ofNat 32 (1 + s.val)) (hx : ∀ l n, x (ix2 l n) = Xi l n)
    (hf : ∀ i l, f (ix2 i l) = feat X W i l) (i : Fin 4096) (N : ℕ) (hN : N < 1023) (hc : c (ix1 i) = BitVec.ofNat 32 N) (s : Fin 2) :
    stepGains c offs x f (ix2 i s) = score X W Xi i (2 * N + s.val) := by
  have hn : 2 * N + s.val < 2046 := by omega
  have hcol : stepCols c offs (ix3 i s 0) = BitVec.ofNat 32 (2 * N + s.val) :=
    wrapped_apply _ i s _ hn (by rw [cols_apply, hc, hoffs, col_word])
  unfold stepGains
  rw [gains_apply]
  unfold score
  rw [dif_pos hn]
  refine Finset.sum_congr rfl fun l _ => ?_
  rw [taken_apply x _ _ i l s _ hn hcol (inside_apply _ i s _ hn hcol), hx, hf]
  exact mul_comm _ _

theorem step_apply (c : IVec S4096 32) (offs : IVec S2 32) (x : FVec Ideal S2048x2046 .f32) (f : FVec Ideal S4096x2048 .f32)
    (hX : ∀ i k, Fin' (X i k)) (hW : ∀ k l, Fin' (W k l)) (hXi : ∀ l n, Fin' (Xi l n))
    (hoffs : ∀ s : Fin 2, offs (ix1 s) = BitVec.ofNat 32 (1 + s.val)) (hx : ∀ l n, x (ix2 l n) = Xi l n)
    (hf : ∀ i l, f (ix2 i l) = feat X W i l) (k : ℕ) (hk : k < 10) (hc : ∀ i, c (ix1 i) = word X W Xi i k) (i : Fin 4096) :
    step c offs x f (ix1 i) = word X W Xi i (k + 1) := by
  set g := score X W Xi i with hg
  have hp : pos g k < 2 ^ k := pos_lt g k
  have h2 : 2 ^ k ≤ 2 ^ 9 := Nat.pow_le_pow_right (by omega) (by omega)
  have hN : 2 ^ k - 1 + pos g k < 1023 := by omega
  have e (s : Fin 2) := stepGains_apply c offs x f hoffs hx hf i _ hN (hc i) s
  have hfin (s : Fin 2) : Fin' (stepGains c offs x f (ix2 i s)) := by
    rw [e s]; exact score_fin hX hW hXi i _ (by omega)
  unfold step
  rw [next_apply, best_apply _ i (hfin 0).2 (hfin 1).2, hc i, e 0, e 1]
  have hpow : 1 ≤ 2 ^ k := Nat.one_le_two_pow
  have i0 : 2 * (2 ^ k - 1 + pos g k) + (0 : Fin 2).val = 2 ^ (k + 1) - 2 + 2 * pos g k := by
    rw [Nat.pow_succ]; show 2 * (2 ^ k - 1 + pos g k) + 0 = _; omega
  have i1 : 2 * (2 ^ k - 1 + pos g k) + (1 : Fin 2).val = 2 ^ (k + 1) - 2 + 2 * pos g k + 1 := by
    rw [Nat.pow_succ]; show 2 * (2 ^ k - 1 + pos g k) + 1 = _; omega
  rw [i0, i1]
  show IntOp.addi (IntOp.addi (IntOp.muli (BitVec.ofNat 32 (2 ^ k - 1 + pos g k)) 2#32) 1#32) _ = BitVec.ofNat 32 (2 ^ (k + 1) - 1 + pos g (k + 1))
  rw [pos_succ]
  have ei : 2 ^ (k + 1) - 1 = 2 * (2 ^ k - 1) + 1 := by rw [Nat.pow_succ]; omega
  by_cases h : g (2 ^ (k + 1) - 2 + 2 * pos g k) < g (2 ^ (k + 1) - 2 + 2 * pos g k + 1)
  · rw [if_pos h, if_pos h, next_word]
    exact congrArg _ (by omega)
  · rw [if_neg h, if_neg h, next_word]
    exact congrArg _ (by omega)

end Cert.ReferenceIdeal.Ops

end
-- ==== Proof.RefValue.lean ====
/-
  The reference's result: after every trip of its loop the carried node is the descent's, and the recorded rows are its path.
-/
module

public import proofs.«01_k».proof.Proof.RefFrame
public import proofs.«01_k».proof.Proof.RefOps

@[expose] public section

set_option maxRecDepth 16384

noncomputable section

namespace Cert.ReferenceIdeal.Value

open Cert.ReferenceIdeal Cert.ReferenceIdeal.Gen Cert.ReferenceIdeal.Ops Cert.Tree
open Idealize.ShloMosaic Idealize.ShloMosaic.TcCoe Idealize.ShloMosaic.StableHlo

section Trips

variable {F : FTy → Type} [FloatOps F]
variable (m : (ℓ : Loc nD τ sig) → Buf (Elt F) ℓ)

/-! ## What each stretch of the body leaves -/

section Stretches

variable (V : Valuation τ sig (Elt F))

theorem read_cols : after while0Ops0 V (Proc.devRef .tc main_while0b_v18)
    = cols (V (Proc.devRef .tc main_v6_4)) (V (Proc.devRef .tc main_v6_0)) := rfl

theorem read_taken : after while0Ops0_1 V (Proc.devRef .tc main_while0b_v19)
    = taken (F := F) (V (Proc.devRef .tc main_v6_1)) (wrapped (V (Proc.devRef .tc main_while0b_v18)))
        (inside (wrapped (V (Proc.devRef .tc main_while0b_v18)))) := by
  after_reads_simp
  simp only [StableHlo.TRef.ofBuf_toBuf]
  rfl

theorem read_gains : after while0Ops0_2 V (Proc.devRef .tc main_while0b_v21)
    = gains (F := F) (V (Proc.devRef .tc main_while0b_v19)) (V (Proc.devRef .tc main_v6_2)) := rfl

theorem read_best : after while0Ops0_3 V (Proc.devRef .tc main_while0b_v22)
    = best (F := F) (V (Proc.devRef .tc main_while0b_v21)) := rfl

theorem read_next : after while0Ops0_4 V (Proc.devRef .tc main_while0b_v27)
    = next (V (Proc.devRef .tc main_v6_4)) (V (Proc.devRef .tc main_while0b_v22)) := rfl

theorem read_record : after while0Ops0_5 V (Proc.devRef .tc main_while0b_v28)
    = record (V (Proc.devRef .tc main_v6_5)) (V (Proc.devRef .tc main_while0b_v27)) (V (Proc.devRef .tc main_v6_3)) := by
  after_reads_simp
  simp only [StableHlo.TRef.ofBuf_toBuf]
  unfold record
  refine congrArg (fun q => Host.dynamicUpdateSlice _ _ q updateFits_S10x4096_S1x4096) (funext fun a => ?_)
  fin_cases a <;> rfl

theorem read_node : after while0Ops0_6 V (Proc.devRef .tc main_v6_4) = V (Proc.devRef .tc main_while0b_v27) := rfl

theorem read_rows : after while0Ops0_6 V (Proc.devRef .tc main_v6_5) = V (Proc.devRef .tc main_while0b_v28) := rfl

/-- The path as the result lists it: a column of zeros, then the recorded rows as columns. -/
def columns (p : IVec S10x4096 32) : IVec S4096x11 32 :=
  concatenate S4096x11 1 [⟨S4096x1, broadcastInDim S4096x1 ![] bcast_S_S4096x1 (constantI S_ 32 0#32)⟩,
    ⟨S4096x10, transpose S4096x10 [1, 0] p transposes_S10x4096_S4096x10_1_0⟩] concatenates_S4096x1_S4096x10_S4096x11_d1

theorem read_out : after hostOps0_1 V (Proc.devRef .tc main_v9) = columns (V (Proc.devRef .tc main_v6_5)) := by
  after_reads_simp
  rfl

end Stretches

/-! ## One trip -/

section Trip

variable (c : Dev nD) (k : ℕ)

theorem trip_node : atK m (k + 1) c (Proc.devRef .tc main_v6_4)
    = step (F := F) (atK m k c (Proc.devRef .tc main_v6_4)) (atK m k c (Proc.devRef .tc main_v6_0))
        (atK m k c (Proc.devRef .tc main_v6_1)) (atK m k c (Proc.devRef .tc main_v6_2)) := by
  rw [show atK m (k + 1) c = afterL bodyI (after condOps (atK m k c)) from rfl]
  generalize atK m k c = V
  simp only [afterL_cons, afterL_nil]
  rw [read_node, after_of_writes_sub while0Ops0_5 _ while0Ops0_5_writes (by decide +kernel), read_next,
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel), read_best, read_gains, read_taken,
    after_of_writes_sub while0Ops0_1 _ while0Ops0_1_writes (by decide +kernel),
    after_of_writes_sub while0Ops0 _ while0Ops0_writes (by decide +kernel),
    after_of_writes_sub condOps _ condOps_writes (by decide +kernel), read_cols,
    after_of_writes_sub while0Ops0 _ while0Ops0_writes (by decide +kernel),
    after_of_writes_sub condOps (r := main_v6_4) _ condOps_writes (by decide +kernel),
    after_of_writes_sub condOps (r := main_v6_0) _ condOps_writes (by decide +kernel),
    after_of_writes_sub condOps (r := main_v6_2) _ condOps_writes (by decide +kernel)]
  rfl

theorem trip_rows : atK m (k + 1) c (Proc.devRef .tc main_v6_5)
    = record (atK m k c (Proc.devRef .tc main_v6_5)) (atK m (k + 1) c (Proc.devRef .tc main_v6_4)) (atK m k c (Proc.devRef .tc main_v6_3)) := by
  rw [show atK m (k + 1) c = afterL bodyI (after condOps (atK m k c)) from rfl]
  generalize atK m k c = V
  simp only [afterL_cons, afterL_nil]
  rw [read_rows, read_node, read_record,
    after_of_writes_sub while0Ops0_5 _ while0Ops0_5_writes (by decide +kernel), ctr_while0Ops0_4, ctr_while0Ops0_3, ctr_while0Ops0_2,
    ctr_while0Ops0_1, ctr_while0Ops0, ctr_cond,
    after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel)]

end Trip

end Trips

/-! ## The loop's entry and its end -/

variable (m : (ℓ : Loc nD τ sig) → Buf (Elt Ideal) ℓ) (c : Dev nD)

/-- The three arguments on core `c`, by coordinates. -/
abbrev X (i : Fin 4096) (k : Fin 2048) : EReal := (m ((c : Thread nD τ).loc main_arg0) : FVec Ideal S4096x2048 .f32) (ix2 i k)
abbrev Wt (k l : Fin 2048) : EReal := (m ((c : Thread nD τ).loc main_arg1) : FVec Ideal S2048x2048 .f32) (ix2 k l)
abbrev Xi (l : Fin 2048) (n : Fin 2046) : EReal := (m ((c : Thread nD τ).loc main_arg2) : FVec Ideal S2048x2046 .f32) (ix2 l n)

theorem kept_offs (k : ℕ) (s : Fin 2) : (atK m k c (Proc.devRef .tc main_v6_0) : IVec S2 32) (ix1 s) = BitVec.ofNat 32 (1 + s.val) := by
  rw [atK_off m c main_v6_0 (by decide +kernel) (by decide +kernel) (by decide +kernel) (by decide +kernel) (by decide +kernel)
    (by decide +kernel) (by decide +kernel) (by decide +kernel) k]
  show addi (broadcastInDim S2 ![] bcast_S_S2 (constantI S_ 32 1#32)) (iotaInDim S2 32 0) (ix1 s) = _
  pointwise
  exact add_word 1 s.val

theorem kept_xi (k : ℕ) (l : Fin 2048) (n : Fin 2046) : (atK m k c (Proc.devRef .tc main_v6_1) : FVec Ideal S2048x2046 .f32) (ix2 l n) = Xi m c l n := by
  rw [atK_off m c main_v6_1 (by decide +kernel) (by decide +kernel) (by decide +kernel) (by decide +kernel) (by decide +kernel)
    (by decide +kernel) (by decide +kernel) (by decide +kernel) k]
  rfl

theorem kept_feat (k : ℕ) (i : Fin 4096) (l : Fin 2048) :
    (atK m k c (Proc.devRef .tc main_v6_2) : FVec Ideal S4096x2048 .f32) (ix2 i l) = feat (X m c) (Wt m c) i l := by
  rw [atK_off m c main_v6_2 (by decide +kernel) (by decide +kernel) (by decide +kernel) (by decide +kernel) (by decide +kernel)
    (by decide +kernel) (by decide +kernel) (by decide +kernel) k]
  show Host.dotGeneral (F := Ideal) dot_S4096x2048_S2048x2048_S4096x2048_1_0_0_1_n_n none
    (m ((c : Thread nD τ).loc main_arg0) : FVec Ideal S4096x2048 .f32) (m ((c : Thread nD τ).loc main_arg1) : FVec Ideal S2048x2048 .f32) (ix2 i l) = _
  pointwise
  rfl

section Path

variable (hX : ∀ i k, Fin' (X m c i k)) (hW : ∀ k l, Fin' (Wt m c k l)) (hXi : ∀ l n, Fin' (Xi m c l n))
include hX hW hXi

theorem node_at : ∀ k, k ≤ 10 → ∀ i : Fin 4096,
    (atK m k c (Proc.devRef .tc main_v6_4) : IVec S4096 32) (ix1 i) = word (X m c) (Wt m c) (Xi m c) i k
  | 0, _, i => rfl
  | k + 1, h, i => by
    rw [trip_node]
    exact step_apply _ _ _ _ hX hW hXi (kept_offs m c k) (kept_xi m c k) (kept_feat m c k) k (by omega) (node_at k (by omega)) i

theorem rows_at : ∀ k, k ≤ 10 → ∀ (j : Fin 10) (i : Fin 4096), j.val < k →
    (atK m k c (Proc.devRef .tc main_v6_5) : IVec S10x4096 32) (ix2 j i) = word (X m c) (Wt m c) (Xi m c) i (j.val + 1)
  | k + 1, h, j, i, hj => by
    rw [trip_rows, record_apply _ _ _ k (by omega) ((congrFun (atK_ctr m c k) _).trans (by
      show 0#32 + BitVec.ofNat 32 k * 1#32 = _
      rw [BitVec.mul_one, BitVec.zero_add]))]
    by_cases e : j.val = k
    · rw [if_pos e, node_at m c hX hW hXi (k + 1) h i, e]
    · rw [if_neg e]
      exact rows_at k (by omega) j i (by omega)

/-- The reference's result: column `j` of row `i` is the node after `j` steps. -/
theorem result : finalContents condOps preI bodyI postI 10 m c (Proc.devRef .tc main_v9)
    = (fun y : S4096x11.Idx => word (X m c) (Wt m c) (Xi m c) (y 0) (y 1).val) := by
  rw [show finalContents condOps preI bodyI postI 10 m c = after hostOps0_1 (after condOps (atK m 10 c)) from rfl]
  rw [read_out, after_of_writes_sub condOps _ condOps_writes (by decide +kernel)]
  unfold columns
  funext y
  idx_vars y
  pointwise
  by_cases h : y1.val < 1
  · refine (dif_pos h).trans ?_
    rw [show y1.val = 0 by omega]
    rfl
  · refine (dif_neg h).trans ?_
    rw [rows_at m c hX hW hXi 10 le_rfl _ y0 (by show y1.val - 1 < 10; omega)]
    exact congrArg (word (X m c) (Wt m c) (Xi m c) y0) (show y1.val - 1 + 1 = y1.val by omega)

end Path

end Cert.ReferenceIdeal.Value

end
-- ==== Proof.PreFacts.lean ====
/-
  The shape facts the precondition's function states.
-/
module

public import proofs.«01_k».proof.Pre_finite

@[expose] public section

noncomputable section

namespace Cert.Pre_finite

open Idealize.ShloMosaic

instance facts : Cert.Pre_finite.Facts where
  bcast_S_S4096x2048 := by decide
  reducesTo_S4096x2048_S_d0_1 := by decide
  h_S_ := by decide
  bcast_S_S2048x2048 := by decide
  reducesTo_S2048x2048_S_d0_1 := by decide
  bcast_S_S2048x2046 := by decide
  reducesTo_S2048x2046_S_d0_1 := by decide

end Cert.Pre_finite

end
-- ==== Proof.Finite.lean ====
/-
  What the precondition says: every element of the three arguments is a real number.
-/
module

public import proofs.«01_k».proof.Proof.PreFacts
public import proofs.«01_k».proof.Proof.Tree
public import Idealize.ShloMosaic.Lib.ReduceAll
public import Idealize.ShloMosaic.Lib.Pointwise

@[expose] public section

set_option maxRecDepth 16384

noncomputable section

namespace Cert.Pre_finite

open Idealize.ShloMosaic Cert.Tree

instance : Subsingleton S_.Idx := ⟨fun a b => funext fun i => i.elim0⟩

/-- A magnitude below `+∞` is a real number's. -/
theorem fin_of_abs (x : EReal) (h : FloatOps.cmpf (F := Ideal) (φ := .f32) .olt (max x (-x) : EReal) (Ideal.ofBits .f32 0x7F800000#32) = 1#1) : Fin' x := by
  have htop : Ideal.ofBits .f32 0x7F800000#32 = ⊤ := by simp [Ideal.ofBits, Ideal.ieee]
  rw [htop] at h
  have hlt : max x (-x) < ⊤ := by
    by_contra hn
    simp [Ideal.cmpf_def, Ideal.cmp, hn] at h
  constructor
  · rintro rfl; simp at hlt
  · rintro rfl; simp at hlt

theorem finite_of (a : FVec Ideal S4096x2048 .f32) (b : FVec Ideal S2048x2048 .f32) (d : FVec Ideal S2048x2046 .f32)
    (h : fn (F := Ideal) a b d = fun _ => 1#1) : (∀ i, Fin' (a i)) ∧ (∀ i, Fin' (b i)) ∧ ∀ i, Fin' (d i) := by
  have h0 := congrFun h (Shape.Idx.first Facts.h_S_)
  unfold fn at h0
  have split : ∀ x y : BitVec 1, IntOp.andi x y = 1#1 → x = 1#1 ∧ y = 1#1 := by decide
  obtain ⟨h1, hd⟩ := split _ _ h0
  obtain ⟨ha, hb⟩ := split _ _ h1
  refine ⟨fun i => fin_of_abs _ ?_, fun i => fin_of_abs _ ?_, fun i => fin_of_abs _ ?_⟩
  · exact Host.reduce_andi_all _ _ _ _ _ ha i
  · exact Host.reduce_andi_all _ _ _ _ _ hb i
  · exact Host.reduce_andi_all _ _ _ _ _ hd i

end Cert.Pre_finite

end
-- ==== Proof.lean ====
/-
  The certificate's claims, assembled: the kernel's frames from its two regions' run at each instance, the reference's from its
  loop's run, and the two results' equality from the one path both were shown to write.
-/
module

public import proofs.«01_k».proof.Defs
public import proofs.«01_k».proof.Proof.Kernel.Run
public import proofs.«01_k».proof.Proof.KernelIdeal.Run
public import proofs.«01_k».proof.Proof.KernelIdeal.Value
public import proofs.«01_k».proof.Proof.RefValue
public import proofs.«01_k».proof.Proof.Finite

@[expose] public section

noncomputable section

namespace Cert.Proof

open Idealize.ShloMosaic Idealize.SL.Sem

theorem frame_kernel : Cert.quiescent_Kernel := fun m g _ =>
  θ_run_mono (Cert.Kernel.Launch.run m g) fun _ h => ⟨fun c => (h.1 c).2, h.2⟩

theorem frame_ideal : Cert.quiescent_KernelIdeal := fun m g _ =>
  θ_run_mono (Cert.KernelIdeal.Launch.run m g) fun _ h => ⟨fun c => (h.1 c).2, h.2⟩

theorem frame_reference : Cert.quiescent_ReferenceIdeal := fun m g _ =>
  θ_run_mono (Cert.ReferenceIdeal.Value.run_args m g) fun _ h => ⟨fun c => (h.1 c).2, h.2⟩

theorem frame_ideal_finite : Cert.quiescent_KernelIdeal_pre_finite := fun m g _ => frame_ideal m g trivial

theorem frame_reference_finite : Cert.quiescent_ReferenceIdeal_pre_finite := fun m g _ => frame_reference m g trivial

/-- On real-number arguments both programs end with the path of the one descent. -/
theorem value : Cert.algebraic_KernelIdeal_ReferenceIdeal_pre_finite := fun m g m' g' hpre hargs => by
  have hfin (c) := Cert.Pre_finite.finite_of _ _ _ (hpre c)
  have hk (c) := Cert.KernelIdeal.result m c (fun i k => (hfin c).1 _) (fun k l => (hfin c).2.1 _) (fun l n => (hfin c).2.2 _)
  have eX (c) : Cert.ReferenceIdeal.Value.X m' c = Cert.KernelIdeal.X m c := by
    funext i k; exact congrFun (hargs c).1 (ix2 i k)
  have eW (c) : Cert.ReferenceIdeal.Value.Wt m' c = Cert.KernelIdeal.Wt m c := by
    funext k l; exact congrFun (hargs c).2.1 (ix2 k l)
  have eXi (c) : Cert.ReferenceIdeal.Value.Xi m' c = Cert.KernelIdeal.Xi m c := by
    funext l n; exact congrFun (hargs c).2.2 (ix2 l n)
  have hr (c) := Cert.ReferenceIdeal.Value.result m' c (fun i k => by rw [eX]; exact (hfin c).1 _) (fun k l => by rw [eW]; exact (hfin c).2.1 _)
    (fun l n => by rw [eXi]; exact (hfin c).2.2 _)
  refine ⟨fun c => (fun y => Cert.Tree.word (Cert.KernelIdeal.X m c) (Cert.KernelIdeal.Wt m c) (Cert.KernelIdeal.Xi m c) (y 0) (y 1).val : Cert.KernelIdeal.S4096x11.Idx → BitVec 32),
    θ_run_mono (Cert.KernelIdeal.Launch.run m g) fun r h c => ⟨(h.1 c).1.trans (hk c), (h.1 c).2⟩,
    θ_run_mono (Cert.ReferenceIdeal.Value.run_args m' g') fun r h c => ⟨(h.1 c).1.trans ((hr c).trans ?_), (h.1 c).2⟩⟩
  rw [eX, eW, eXi]

theorem claim : Cert.Claim := ⟨Cert.Kernel.Gen.facts, Cert.KernelIdeal.Gen.facts, Cert.ReferenceIdeal.Gen.facts, Cert.Pre_finite.facts,
  frame_kernel, frame_ideal, frame_ideal_finite, frame_reference, frame_reference_finite, trivial, value⟩

end Cert.Proof

end
